-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x26 : Shape := ⟨2, ![16384, 26]⟩
abbrev S100000x128 : Shape := ⟨2, ![100000, 128]⟩
abbrev S1x128 : Shape := ⟨2, ![1, 128]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S100000x128 .f32) (main_arg2 : FVec F S1x128 .f32) (main_arg3 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S100000x128 : Shape := ⟨2, ![100000, 128]⟩
abbrev S1x128 : Shape := ⟨2, ![1, 128]⟩
abbrev S1 : Shape := ⟨1, ![1]⟩
abbrev S1x1 : Shape := ⟨2, ![1, 1]⟩
abbrev S26x16384 : Shape := ⟨2, ![26, 16384]⟩
abbrev S100000 : Shape := ⟨1, ![100000]⟩
abbrev S425984 : Shape := ⟨1, ![425984]⟩
abbrev S12800x128 : Shape := ⟨2, ![12800, 128]⟩
abbrev S26x2048 : Shape := ⟨2, ![26, 2048]⟩
abbrev S53248 : Shape := ⟨1, ![53248]⟩
abbrev S1x12800 : Shape := ⟨2, ![1, 12800]⟩
abbrev S12800 : Shape := ⟨1, ![12800]⟩
abbrev S10400 : Shape := ⟨1, ![10400]⟩
abbrev S8x26x2048 : Shape := ⟨3, ![8, 26, 2048]⟩
abbrev S26x512 : Shape := ⟨2, ![26, 512]⟩
abbrev S_ : Shape := ⟨0, ![]⟩
abbrev S1x26x512 : Shape := ⟨3, ![1, 26, 512]⟩
abbrev S16 : Shape := ⟨1, ![16]⟩
abbrev S1x16 : Shape := ⟨2, ![1, 16]⟩
abbrev S13x512 : Shape := ⟨2, ![13, 512]⟩
abbrev S16384x26x1 : Shape := ⟨3, ![16384, 26, 1]⟩

abbrev nBuf : Table → Nat
  | .hbm => 12
  | .local .tc .vmem => 9
  | .local .scVector .vmem => 3
  | _ => 0

abbrev bufTy : (tb : Table) → Fin (nBuf tb) → BufTy
  | .hbm, ⟨0, _⟩ => ⟨S16384x26, .i32⟩
  | .hbm, ⟨1, _⟩ => ⟨S100000x128, .f32⟩
  | .hbm, ⟨2, _⟩ => ⟨S1x128, .f32⟩
  | .hbm, ⟨3, _⟩ => ⟨S1, .f32⟩
  | .hbm, ⟨4, _⟩ => ⟨S1x1, .f32⟩
  | .hbm, ⟨5, _⟩ => ⟨S26x16384, .i32⟩
  | .hbm, ⟨6, _⟩ => ⟨S100000, .f32⟩
  | .hbm, ⟨7, _⟩ => ⟨S425984, .i32⟩
  | .hbm, ⟨8, _⟩ => ⟨S8x26x2048, .i32⟩
  | .hbm, ⟨9, _⟩ => ⟨S26x16384, .f32⟩
  | .hbm, ⟨10, _⟩ => ⟨S16384x26, .f32⟩
  | .hbm, ⟨11, _⟩ => ⟨S16384x26x1, .f32⟩
  | .local .tc .vmem, ⟨0, _⟩ => ⟨S12800x128, .f32⟩
  | .local .tc .vmem, ⟨1, _⟩ => ⟨S12800x128, .f32⟩
  | .local .tc .vmem, ⟨2, _⟩ => ⟨S1x128, .f32⟩
  | .local .tc .vmem, ⟨3, _⟩ => ⟨S1x1, .f32⟩
  | .local .tc .vmem, ⟨4, _⟩ => ⟨S26x2048, .i32⟩
  | .local .tc .vmem, ⟨5, _⟩ => ⟨S26x2048, .i32⟩
  | .local .tc .vmem, ⟨6, _⟩ => ⟨S100000, .f32⟩
  | .local .tc .vmem, ⟨7, _⟩ => ⟨S53248, .i32⟩
  | .local .tc .vmem, ⟨8, _⟩ => ⟨S53248, .i32⟩
  | .local .scVector .vmem, ⟨0, _⟩ => ⟨S100000, .f32⟩
  | .local .scVector .vmem, ⟨1, _⟩ => ⟨S26x512, .i32⟩
  | .local .scVector .vmem, ⟨2, _⟩ => ⟨S26x512, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v2_0_scv : Ref sig .scVector := ⟨.hbm, 6, rfl⟩
abbrev main_v3_scv : Ref sig .scVector := ⟨.hbm, 8, rfl⟩
abbrev main_v4_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c7_i32 : BitVec 32 := 7#32
  let v8 : BitVec 1 := Scalar.cmpi .slt arg0 c7_i32
  let v9 : BitVec 32 := Scalar.extui v8
  let c0_i32 : BitVec 32 := 0#32
  let v10 : BitVec 1 := Scalar.cmpi .ne v9 c0_i32
  v10

def k0_off1 (i : grid0.Coords) : Fin 1 → Nat :=
  let arg0 : BitVec 32 := BitVec.ofNat 32 (i 0).val
  let c12800_i32 : BitVec 32 := 12800#32
  let v18 : BitVec 32 := Scalar.muli arg0 c12800_i32
  let v19 : Index := Scalar.indexCast v18
  ![v19.toNat]
def k0_cond2 (i : grid0.Coords) : BitVec 1 :=
  let arg0 : BitVec 32 := BitVec.ofNat 32 (i 0).val
  let c7_i32_5 : BitVec 32 := 7#32
  let v11 : BitVec 1 := Scalar.cmpi .eq arg0 c7_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S26x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S100000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S53248 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, 0, v29.toNat]
@[reducible] def k1_t1_loop : Scf.Loop 32 :=
  let c0_i32_15 : BitVec 32 := 0#32
  let c416_i32 : BitVec 32 := 416#32
  let v39 : BitVec 32 := Scalar.addi c0_i32_15 c416_i32
  let c1_i32_16 : BitVec 32 := 1#32
  ⟨c0_i32_15, v39, c1_i32_16⟩
def k1_off2 (k1_t1 : Fin k1_t1_loop.trips) : Fin 2 → Nat :=
  let c0_i32_42 : BitVec 32 := 0#32
  let c0_i32_35 : BitVec 32 := 0#32
  let c0_i32_15 : BitVec 32 := 0#32
  let c1_i32_16 : BitVec 32 := 1#32
  let arg11 : BitVec 32 := Scf.iv c0_i32_15 c1_i32_16 k1_t1
  let c1_i32_34 : BitVec 32 := 1#32
  let v49 : BitVec 32 := Scalar.muli arg11 c1_i32_34
  let v50 : BitVec 32 := Scalar.addi c0_i32_35 v49
  let c0_i32_36 : BitVec 32 := 0#32
  let v52 : BitVec 1 := Scalar.cmpi .sgt v50 c0_i32_36
  let v53 : BitVec 32 := Scalar.extui v52
  let c0_i32_37 : BitVec 32 := 0#32
  let v54 : BitVec 1 := Scalar.cmpi .slt v50 c0_i32_37
  let v55 : BitVec 32 := Scalar.extui v54
  let v56 : BitVec 32 := Scalar.subi v53 v55
  let c32_i32 : BitVec 32 := 32#32
  let c0_i32_38 : BitVec 32 := 0#32
  let v57 : BitVec 1 := Scalar.cmpi .sgt c32_i32 c0_i32_38
  let v58 : BitVec 32 := Scalar.extui v57
  let c0_i32_39 : BitVec 32 := 0#32
  let v59 : BitVec 1 := Scalar.cmpi .slt c32_i32 c0_i32_39
  let v60 : BitVec 32 := Scalar.extui v59
  let v61 : BitVec 32 := Scalar.subi v58 v60
  let v62 : BitVec 1 := Scalar.cmpi .ne v56 v61
  let v63 : BitVec 32 := Scalar.remsi v50 c32_i32
  let c0_i32_40 : BitVec 32 := 0#32
  let v64 : BitVec 1 := Scalar.cmpi .ne v63 c0_i32_40
  let v65 : BitVec 1 := Scalar.andi v62 v64
  let v51 : BitVec 32 := Scalar.divsi v50 c32_i32
  let c1_i32_41 : BitVec 32 := 1#32
  let v66 : BitVec 32 := Scalar.subi v51 c1_i32_41
  let v67 : BitVec 32 := Scalar.select v65 v66 v51
  let v68 : BitVec 32 := Scalar.addi c0_i32_42 v67
  let v80 : Index := Scalar.indexCast v68
  let c32_i32_43 : BitVec 32 := 32#32
  let c0_i32_44 : BitVec 32 := 0#32
  let v69 : BitVec 1 := Scalar.cmpi .eq c32_i32_43 c0_i32_44
  let c1_i32_45 : BitVec 32 := 1#32
  let v70 : BitVec 32 := Scalar.select v69 c1_i32_45 c32_i32_43
  let v71 : BitVec 32 := Scalar.remsi v50 v70
  let c0_i32_47 : BitVec 32 := 0#32
  let v73 : BitVec 1 := Scalar.cmpi .slt v71 c0_i32_47
  let c0_i32_48 : BitVec 32 := 0#32
  let v74 : BitVec 1 := Scalar.cmpi .slt v70 c0_i32_48
  let v75 : BitVec 1 := Scalar.xori v73 v74
  let c0_i32_46 : BitVec 32 := 0#32
  let v72 : BitVec 1 := Scalar.cmpi .ne v71 c0_i32_46
  let v76 : BitVec 1 := Scalar.andi v75 v72
  let v77 : BitVec 32 := Scalar.addi v71 v70
  let v78 : BitVec 32 := Scalar.select v76 v77 v71
  let c16_i32 : BitVec 32 := 16#32
  let v79 : BitVec 32 := Scalar.muli v78 c16_i32
  let v81 : Index := Scalar.indexCast v79
  ![v80.toNat, v81.toNat]

def k1_chk1 (v82 : IVec S16 32) : Prop :=
  (∀ a x, ((![v82] : Fin 1 → IVec S16 32) a x).toNat < S100000.size a)
theorem k1_idx1_inb : ∀ (v82 : IVec S16 32) (k1_hw1 : k1_chk1 v82), ∀ a x, ((![v82] : Fin 1 → IVec S16 32) a x).toNat < S100000.size a := fun v82 k1_hw1 => k1_hw1
def k1_off3 (k1_t1 : Fin k1_t1_loop.trips) : Fin 2 → Nat :=
  let c0_i32_42 : BitVec 32 := 0#32
  let c0_i32_35 : BitVec 32 := 0#32
  let c0_i32_15 : BitVec 32 := 0#32
  let c1_i32_16 : BitVec 32 := 1#32
  let arg11 : BitVec 32 := Scf.iv c0_i32_15 c1_i32_16 k1_t1
  let c1_i32_34 : BitVec 32 := 1#32
  let v49 : BitVec 32 := Scalar.muli arg11 c1_i32_34
  let v50 : BitVec 32 := Scalar.addi c0_i32_35 v49
  let c0_i32_36 : BitVec 32 := 0#32
  let v52 : BitVec 1 := Scalar.cmpi .sgt v50 c0_i32_36
  let v53 : BitVec 32 := Scalar.extui v52
  let c0_i32_37 : BitVec 32 := 0#32
  let v54 : BitVec 1 := Scalar.cmpi .slt v50 c0_i32_37
  let v55 : BitVec 32 := Scalar.extui v54
  let v56 : BitVec 32 := Scalar.subi v53 v55
  let c32_i32 : BitVec 32 := 32#32
  let c0_i32_38 : BitVec 32 := 0#32
  let v57 : BitVec 1 := Scalar.cmpi .sgt c32_i32 c0_i32_38
  let v58 : BitVec 32 := Scalar.extui v57
  let c0_i32_39 : BitVec 32 := 0#32
  let v59 : BitVec 1 := Scalar.cmpi .slt c32_i32 c0_i32_39
  let v60 : BitVec 32 := Scalar.extui v59
  let v61 : BitVec 32 := Scalar.subi v58 v60
  let v62 : BitVec 1 := Scalar.cmpi .ne v56 v61
  let v63 : BitVec 32 := Scalar.remsi v50 c32_i32
  let c0_i32_40 : BitVec 32 := 0#32
  let v64 : BitVec 1 := Scalar.cmpi .ne v63 c0_i32_40
  let v65 : BitVec 1 := Scalar.andi v62 v64
  let v51 : BitVec 32 := Scalar.divsi v50 c32_i32
  let c1_i32_41 : BitVec 32 := 1#32
  let v66 : BitVec 32 := Scalar.subi v51 c1_i32_41
  let v67 : BitVec 32 := Scalar.select v65 v66 v51
  let v68 : BitVec 32 := Scalar.addi c0_i32_42 v67
  let v84 : Index := Scalar.indexCast v68
  let c32_i32_43 : BitVec 32 := 32#32
  let c0_i32_44 : BitVec 32 := 0#32
  let v69 : BitVec 1 := Scalar.cmpi .eq c32_i32_43 c0_i32_44
  let c1_i32_45 : BitVec 32 := 1#32
  let v70 : BitVec 32 := Scalar.select v69 c1_i32_45 c32_i32_43
  let v71 : BitVec 32 := Scalar.remsi v50 v70
  let c0_i32_47 : BitVec 32 := 0#32
  let v73 : BitVec 1 := Scalar.cmpi .slt v71 c0_i32_47
  let c0_i32_48 : BitVec 32 := 0#32
  let v74 : BitVec 1 := Scalar.cmpi .slt v70 c0_i32_48
  let v75 : BitVec 1 := Scalar.xori v73 v74
  let c0_i32_46 : BitVec 32 := 0#32
  let v72 : BitVec 1 := Scalar.cmpi .ne v71 c0_i32_46
  let v76 : BitVec 1 := Scalar.andi v75 v72
  let v77 : BitVec 32 := Scalar.addi v71 v70
  let v78 : BitVec 32 := Scalar.select v76 v77 v71
  let c16_i32 : BitVec 32 := 16#32
  let v79 : BitVec 32 := Scalar.muli v78 c16_i32
  let v85 : Index := Scalar.indexCast v79
  ![v84.toNat, v85.toNat]
def k1_off4 (i : grid1.Coords) : Fin 2 → Nat :=
  let c0_i32_20 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v30 : BitVec 32 := Scalar.muli v1 c512_i32_10
  ![0, v30.toNat]
@[reducible] def k1_t2_loop : Scf.Loop 32 :=
  let c0_i32_24 : BitVec 32 := 0#32
  let c416_i32_25 : BitVec 32 := 416#32
  let v44 : BitVec 32 := Scalar.addi c0_i32_24 c416_i32_25
  let c1_i32_26 : BitVec 32 := 1#32
  ⟨c0_i32_24, v44, c1_i32_26⟩
def k1_off5 (k1_t2 : Fin k1_t2_loop.trips) : Fin 2 → Nat :=
  let c13_i32 : BitVec 32 := 13#32
  let c0_i32_35 : BitVec 32 := 0#32
  let c0_i32_24 : BitVec 32 := 0#32
  let c1_i32_26 : BitVec 32 := 1#32
  let arg11 : BitVec 32 := Scf.iv c0_i32_24 c1_i32_26 k1_t2
  let c1_i32_34 : BitVec 32 := 1#32
  let v49 : BitVec 32 := Scalar.muli arg11 c1_i32_34
  let v50 : BitVec 32 := Scalar.addi c0_i32_35 v49
  let c0_i32_36 : BitVec 32 := 0#32
  let v52 : BitVec 1 := Scalar.cmpi .sgt v50 c0_i32_36
  let v53 : BitVec 32 := Scalar.extui v52
  let c0_i32_37 : BitVec 32 := 0#32
  let v54 : BitVec 1 := Scalar.cmpi .slt v50 c0_i32_37
  let v55 : BitVec 32 := Scalar.extui v54
  let v56 : BitVec 32 := Scalar.subi v53 v55
  let c32_i32 : BitVec 32 := 32#32
  let c0_i32_38 : BitVec 32 := 0#32
  let v57 : BitVec 1 := Scalar.cmpi .sgt c32_i32 c0_i32_38
  let v58 : BitVec 32 := Scalar.extui v57
  let c0_i32_39 : BitVec 32 := 0#32
  let v59 : BitVec 1 := Scalar.cmpi .slt c32_i32 c0_i32_39
  let v60 : BitVec 32 := Scalar.extui v59
  let v61 : BitVec 32 := Scalar.subi v58 v60
  let v62 : BitVec 1 := Scalar.cmpi .ne v56 v61
  let v63 : BitVec 32 := Scalar.remsi v50 c32_i32
  let c0_i32_40 : BitVec 32 := 0#32
  let v64 : BitVec 1 := Scalar.cmpi .ne v63 c0_i32_40
  let v65 : BitVec 1 := Scalar.andi v62 v64
  let v51 : BitVec 32 := Scalar.divsi v50 c32_i32
  let c1_i32_41 : BitVec 32 := 1#32
  let v66 : BitVec 32 := Scalar.subi v51 c1_i32_41
  let v67 : BitVec 32 := Scalar.select v65 v66 v51
  let v68 : BitVec 32 := Scalar.addi c13_i32 v67
  let v80 : Index := Scalar.indexCast v68
  let c32_i32_42 : BitVec 32 := 32#32
  let c0_i32_43 : BitVec 32 := 0#32
  let v69 : BitVec 1 := Scalar.cmpi .eq c32_i32_42 c0_i32_43
  let c1_i32_44 : BitVec 32 := 1#32
  let v70 : BitVec 32 := Scalar.select v69 c1_i32_44 c32_i32_42
  let v71 : BitVec 32 := Scalar.remsi v50 v70
  let c0_i32_46 : BitVec 32 := 0#32
  let v73 : BitVec 1 := Scalar.cmpi .slt v71 c0_i32_46
  let c0_i32_47 : BitVec 32 := 0#32
  let v74 : BitVec 1 := Scalar.cmpi .slt v70 c0_i32_47
  let v75 : BitVec 1 := Scalar.xori v73 v74
  let c0_i32_45 : BitVec 32 := 0#32
  let v72 : BitVec 1 := Scalar.cmpi .ne v71 c0_i32_45
  let v76 : BitVec 1 := Scalar.andi v75 v72
  let v77 : BitVec 32 := Scalar.addi v71 v70
  let v78 : BitVec 32 := Scalar.select v76 v77 v71
  let c16_i32 : BitVec 32 := 16#32
  let v79 : BitVec 32 := Scalar.muli v78 c16_i32
  let v81 : Index := Scalar.indexCast v79
  ![v80.toNat, v81.toNat]

def k1_chk2 (v82 : IVec S16 32) : Prop :=
  (∀ a x, ((![v82] : Fin 1 → IVec S16 32) a x).toNat < S100000.size a)
theorem k1_idx2_inb : ∀ (v82 : IVec S16 32) (k1_hw2 : k1_chk2 v82), ∀ a x, ((![v82] : Fin 1 → IVec S16 32) a x).toNat < S100000.size a := fun v82 k1_hw2 => k1_hw2
def k1_off6 (k1_t2 : Fin k1_t2_loop.trips) : Fin 2 → Nat :=
  let c13_i32 : BitVec 32 := 13#32
  let c0_i32_35 : BitVec 32 := 0#32
  let c0_i32_24 : BitVec 32 := 0#32
  let c1_i32_26 : BitVec 32 := 1#32
  let arg11 : BitVec 32 := Scf.iv c0_i32_24 c1_i32_26 k1_t2
  let c1_i32_34 : BitVec 32 := 1#32
  let v49 : BitVec 32 := Scalar.muli arg11 c1_i32_34
  let v50 : BitVec 32 := Scalar.addi c0_i32_35 v49
  let c0_i32_36 : BitVec 32 := 0#32
  let v52 : BitVec 1 := Scalar.cmpi .sgt v50 c0_i32_36
  let v53 : BitVec 32 := Scalar.extui v52
  let c0_i32_37 : BitVec 32 := 0#32
  let v54 : BitVec 1 := Scalar.cmpi .slt v50 c0_i32_37
  let v55 : BitVec 32 := Scalar.extui v54
  let v56 : BitVec 32 := Scalar.subi v53 v55
  let c32_i32 : BitVec 32 := 32#32
  let c0_i32_38 : BitVec 32 := 0#32
  let v57 : BitVec 1 := Scalar.cmpi .sgt c32_i32 c0_i32_38
  let v58 : BitVec 32 := Scalar.extui v57
  let c0_i32_39 : BitVec 32 := 0#32
  let v59 : BitVec 1 := Scalar.cmpi .slt c32_i32 c0_i32_39
  let v60 : BitVec 32 := Scalar.extui v59
  let v61 : BitVec 32 := Scalar.subi v58 v60
  let v62 : BitVec 1 := Scalar.cmpi .ne v56 v61
  let v63 : BitVec 32 := Scalar.remsi v50 c32_i32
  let c0_i32_40 : BitVec 32 := 0#32
  let v64 : BitVec 1 := Scalar.cmpi .ne v63 c0_i32_40
  let v65 : BitVec 1 := Scalar.andi v62 v64
  let v51 : BitVec 32 := Scalar.divsi v50 c32_i32
  let c1_i32_41 : BitVec 32 := 1#32
  let v66 : BitVec 32 := Scalar.subi v51 c1_i32_41
  let v67 : BitVec 32 := Scalar.select v65 v66 v51
  let v68 : BitVec 32 := Scalar.addi c13_i32 v67
  let v84 : Index := Scalar.indexCast v68
  let c32_i32_42 : BitVec 32 := 32#32
  let c0_i32_43 : BitVec 32 := 0#32
  let v69 : BitVec 1 := Scalar.cmpi .eq c32_i32_42 c0_i32_43
  let c1_i32_44 : BitVec 32 := 1#32
  let v70 : BitVec 32 := Scalar.select v69 c1_i32_44 c32_i32_42
  let v71 : BitVec 32 := Scalar.remsi v50 v70
  let c0_i32_46 : BitVec 32 := 0#32
  let v73 : BitVec 1 := Scalar.cmpi .slt v71 c0_i32_46
  let c0_i32_47 : BitVec 32 := 0#32
  let v74 : BitVec 1 := Scalar.cmpi .slt v70 c0_i32_47
  let v75 : BitVec 1 := Scalar.xori v73 v74
  let c0_i32_45 : BitVec 32 := 0#32
  let v72 : BitVec 1 := Scalar.cmpi .ne v71 c0_i32_45
  let v76 : BitVec 1 := Scalar.andi v75 v72
  let v77 : BitVec 32 := Scalar.addi v71 v70
  let v78 : BitVec 32 := Scalar.select v76 v77 v71
  let c16_i32 : BitVec 32 := 16#32
  let v79 : BitVec 32 := Scalar.muli v78 c16_i32
  let v85 : Index := Scalar.indexCast v79
  ![v84.toNat, v85.toNat]
def k1_off7 (i : grid1.Coords) : Fin 2 → Nat :=
  let c13_i32_35_r0 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v30 : BitVec 32 := Scalar.muli v1 c512_i32_10
  ![13, v30.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S100000x128 : Shape := ⟨2, ![100000, 128]⟩
abbrev S1x128 : Shape := ⟨2, ![1, 128]⟩
abbrev S1 : Shape := ⟨1, ![1]⟩
abbrev S_ : Shape := ⟨0, ![]⟩
abbrev S16384x26x1 : Shape := ⟨3, ![16384, 26, 1]⟩
abbrev S1x1x1 : Shape := ⟨3, ![1, 1, 1]⟩
abbrev S16384x26x128 : Shape := ⟨3, ![16384, 26, 128]⟩
abbrev S128x1 : Shape := ⟨2, ![128, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S100000x128, .f32⟩
  | .hbm, ⟨2, _⟩ => ⟨S1x128, .f32⟩
  | .hbm, ⟨3, _⟩ => ⟨S1, .f32⟩
  | .hbm, ⟨4, _⟩ => ⟨S_, .i32⟩
  | .hbm, ⟨5, _⟩ => ⟨S16384x26, .i32⟩
  | .hbm, ⟨6, _⟩ => ⟨S16384x26, .i1⟩
  | .hbm, ⟨7, _⟩ => ⟨S_, .i32⟩
  | .hbm, ⟨8, _⟩ => ⟨S16384x26, .i32⟩
  | .hbm, ⟨9, _⟩ => ⟨S16384x26, .i32⟩
  | .hbm, ⟨10, _⟩ => ⟨S16384x26, .i32⟩
  | .hbm, ⟨11, _⟩ => ⟨S16384x26x1, .i32⟩
  | .hbm, ⟨12, _⟩ => ⟨S1, .i32⟩
  | .hbm, ⟨13, _⟩ => ⟨S_, .i32⟩
  | .hbm, ⟨14, _⟩ => ⟨S16384x26x1, .i32⟩
  | .hbm, ⟨15, _⟩ => ⟨S16384x26x1, .i1⟩
  | .hbm, ⟨16, _⟩ => ⟨S1x1x1, .i32⟩
  | .hbm, ⟨17, _⟩ => ⟨S16384x26x1, .i32⟩
  | .hbm, ⟨18, _⟩ => ⟨S16384x26x1, .i1⟩
  | .hbm, ⟨19, _⟩ => ⟨S16384x26x1, .i1⟩
  | .hbm, ⟨20, _⟩ => ⟨S_, .i1⟩
  | .hbm, ⟨21, _⟩ => ⟨S16384x26, .i1⟩
  | .hbm, ⟨22, _⟩ => ⟨S16384x26x128, .f32⟩
  | .hbm, ⟨23, _⟩ => ⟨S16384x26x128, .i1⟩
  | .hbm, ⟨24, _⟩ => ⟨S_, .f32⟩
  | .hbm, ⟨25, _⟩ => ⟨S16384x26x128, .f32⟩
  | .hbm, ⟨26, _⟩ => ⟨S16384x26x128, .f32⟩
  | .hbm, ⟨27, _⟩ => ⟨S128x1, .f32⟩
  | .hbm, ⟨28, _⟩ => ⟨S16384x26x1, .f32⟩
  | .hbm, ⟨29, _⟩ => ⟨S1x1x1, .f32⟩
  | .hbm, ⟨30, _⟩ => ⟨S16384x26x1, .f32⟩
  | .hbm, ⟨31, _⟩ => ⟨S16384x26x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Setup.lean ====
/-
  The set-up the proof's modules share: the program as the launch theorem sees it, the resource algebra, the arrays'
  locations, and the plain functions the contents are stated with.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts: the four handshake semaphores are told apart and none is a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev vLoc (d : Dev nD) : Loc nD τ sig := (SparseCore.T d).loc main_v2_0
abbrev gLoc (d : Dev nD) : Loc nD τ sig := (SparseCore.T d).loc main_v3
abbrev yLoc (d : Dev nD) : Loc nD τ sig := (SparseCore.T d).loc main_v4

/-- Entry `n` of a table of 100000, as an index (`n` is below 100000 wherever this is used). -/
def ent (n : ℕ) : S100000.Idx
  | ⟨0, _⟩ => ⟨n % 100000, Nat.mod_lt _ (by decide)⟩

/-- The table's entry a row number names. -/
def pick (v : S100000.Idx → Elt F .f32) (w : BitVec 32) : Elt F .f32 := v (ent w.toNat)

/-- Where entry `(f, b)` of the transposed index array sits in the array of 8 groups of 2048 columns. -/
def grp (i : S26x16384.Idx) : S8x26x2048.Idx
  | ⟨0, _⟩ => ⟨(i 1).val / 2048, by have : (i 1).val < 16384 := (i 1).isLt; show _ < 8; omega⟩
  | ⟨1, _⟩ => ⟨(i 0).val, (i 0).isLt⟩
  | ⟨2, _⟩ => ⟨(i 1).val % 2048, by show _ < 2048; omega⟩

/-- What the gather leaves at `(f, b)`: the table's entry for the row number there. -/
def yOf (v : S100000.Idx → Elt F .f32) (g : S8x26x2048.Idx → BitVec 32) (i : S26x16384.Idx) : Elt F .f32 := pick v (g (grp i))

/-- The elements of the result tile `(c, s)` writes: rows 13·h to 13·h + 12 of columns 1024·s + 512·c to 1024·s + 512·c + 511. -/
def blk (h : ℕ) (c : Fin 2) (s : Fin 16) : Finset S26x16384.Idx :=
  Finset.univ.filter fun i => (i 0).val / 13 = h ∧ (i 1).val / 512 = 2 * s.val + c.val

end Cert.Proof.Sc
-- ==== Proof.Region.lean ====
/-
  The TensorCore call as the launch theorem takes it: its body run at a point, what its windows hold, and the call as a
  region of the program.
-/
module

public import proofs.«01_k».proof.Proof.Setup
public import Idealize.ShloMosaic.Lib.Pipeline.ArrRel
public import Idealize.ShloMosaic.Lib.VecWindow
public import Idealize.ShloMosaic.Lib.WritesUnit
public import Idealize.ShloMosaic.Lib.Pointwise
public import Idealize.ShloMosaic.Lib.Pipeline.FrameBody
public import Idealize.ShloMosaic.Lib.Pipeline.RegionArrays

@[expose] public section

noncomputable section

namespace Cert.Proof.Sc

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body at a point -/

/-- A grid coordinate as the number the body computes with. -/
theorem cond1_iff : ∀ i : grid0.Coords, k0_cond1 i = 1#1 ↔ (i 0).val < 7 := by decide +kernel
theorem cond2_iff : ∀ i : grid0.Coords, k0_cond2 i = 1#1 ↔ (i 0).val = 7 := by decide +kernel
theorem off1_val (i : grid0.Coords) : k0_off1 i 0 = 12800 * (i 0).val := by
  revert i; decide +kernel

/-- What the body leaves in the table's buffer at coordinates `i`, when it found `Y5` there and its other windows hold `Y1`, `Y2` and
    `Y3`: its block of 12800 entries (10400 at the last point) computed from those, every other entry as it was. -/
def tableAfter (i : grid0.Coords) (Y1 : Vec F S12800x128 .f32) (Y2 : Vec F S1x128 .f32) (Y3 : Vec F S1x1 .f32) (Y5 X5 : S100000.Idx → Elt F .f32) : Prop :=
  ∀ n : S100000.Idx,
    (∀ r : S12800.Idx, (n 0).val = 12800 * (i 0).val + (r 0).val → X5 n = k0_pay1 Y1 Y2 Y3 r)
      ∧ ((n 0).val < 12800 * (i 0).val → X5 n = Y5 n)

/-- The cut of the last block: its first 10400 entries. -/
theorem pay2_apply (Y1 : Vec F S12800x128 .f32) (Y2 : Vec F S1x128 .f32) (Y3 : Vec F S1x1 .f32) (x : S10400.Idx) (r : S12800.Idx)
    (h : (r 0).val = (x 0).val) : k0_pay2 Y1 Y2 Y3 x = k0_pay1 Y1 Y2 Y3 r := by
  unfold k0_pay2
  generalize k0_pay1 Y1 Y2 Y3 = u
  show u _ = u r
  refine congrArg u (funext fun a => Fin.ext ?_)
  match a with
  | ⟨0, _⟩ => exact (Nat.zero_add _).trans h.symm

/-- A store of one block into the table's buffer: the block's entries at its place, the entries before it as they were. -/
theorem table_store (M5 : Memref sig .tc .vmem S100000 .f32) (f5 : M5.view.ty.Contents (Elt F)) (i : grid0.Coords)
    (Y1 : Vec F S12800x128 .f32) (Y2 : Vec F S1x128 .f32) (Y3 : Vec F S1x1 .f32) {off size : Fin 1 → ℕ} (inb : ∀ a, off a + size a ≤ S100000.size a)
    (w : (Rect.unit (s := S100000) off size inb).shape.Idx → Elt F .f32) (hoff : off 0 = 12800 * (i 0).val)
    (hsize : size 0 = 12800 ∨ off 0 + size 0 = 100000)
    (hw : ∀ (x : (Rect.unit (s := S100000) off size inb).shape.Idx) (r : S12800.Idx), (r 0).val = (x 0).val → w x = k0_pay1 Y1 Y2 Y3 r) :
    tableAfter i Y1 Y2 Y3 (M5.view.read (Elt F) f5) (M5.view.read (Elt F) (M5.view.writes (Elt F) f5 [⟨Rect.unit off size inb, w⟩])) := by
  intro n
  constructor
  · intro r hr
    have hn : (n 0).val < 100000 := (n 0).isLt
    have hr' : (r 0).val < 12800 := (r 0).isLt
    have hlt : (r 0).val < size 0 := by omega
    rw [View.read_writes_cons_unit_of_mem M5.view f5 inb w [] n (fun | ⟨0, _⟩ => ⟨(r 0).val, hlt⟩) rfl
      (fun | ⟨0, _⟩ => by show (n 0).val = off 0 + (r 0).val; omega)]
    exact hw _ r rfl
  · intro hn
    rw [View.read_writes_cons_unit_of_not_mem M5.view f5 inb w [] n rfl 0 (.inl (by omega)), View.writes_nil]

/-- A buffer held at contents of which `R` holds is held at some contents of which `R` holds. -/
theorem owns_some (c : Dev nD) {sp : Space} {s : Shape} {e : EltTy} (M : Memref sig .tc sp s e) (f : M.view.ty.Contents (Elt F))
    (R : (s.Idx → Elt F e) → Prop) (h : R (M.view.read (Elt F) f)) :
    (M.view.loc (c : Thread nD τ) ↦[M.view.set]{fullShare} f : sProp 𝕄)
      ⊢ iprop(∃ X, ⌜R X⌝ ∗ ∃ f, ⌜M.view.read (Elt F) f = X⌝ ∗ M.view.loc (c : Thread nD τ) ↦[M.view.set]{fullShare} f) := by
  iintro H
  iexists M.view.read (Elt F) f
  isplitr
  · ipureintro; exact h
  iexists f
  isplitr
  · ipureintro; rfl
  iexact H

set_option maxRecDepth 8192 in
/-- The body at coordinates `i`, from its six windows' buffers at `Y1` … `Y6`: the inputs as they were, the table's buffer as
    `tableAfter` says, the flattened block of row numbers in the last. -/
theorem project_run (c : Dev nD) (i : grid0.Coords)
    (M1 : Memref sig .tc .vmem S12800x128 .f32) (w1 : M1.IsWhole) (M2 : Memref sig .tc .vmem S1x128 .f32) (w2 : M2.IsWhole)
    (M3 : Memref sig .tc .vmem S1x1 .f32) (w3 : M3.IsWhole) (M4 : Memref sig .tc .vmem S26x2048 .i32) (w4 : M4.IsWhole)
    (M5 : Memref sig .tc .vmem S100000 .f32) (w5 : M5.IsWhole) (M6 : Memref sig .tc .vmem S53248 .i32) (w6 : M6.IsWhole)
    (Y1 : S12800x128.Idx → Elt F .f32) (Y2 : S1x128.Idx → Elt F .f32) (Y3 : S1x1.Idx → Elt F .f32) (Y4 : S26x2048.Idx → Elt F .i32)
    (Y5 : S100000.Idx → Elt F .f32) (Y6 : S53248.Idx → Elt F .i32) (Q : PUnit → sProp 𝕄) :
    iprop(owns (c : Thread nD τ) M1 fullShare Y1 ∗ owns (c : Thread nD τ) M2 fullShare Y2 ∗ owns (c : Thread nD τ) M3 fullShare Y3
      ∗ owns (c : Thread nD τ) M4 fullShare Y4 ∗ owns (c : Thread nD τ) M5 fullShare Y5 ∗ owns (c : Thread nD τ) M6 fullShare Y6
      ∗ (iprop(owns (c : Thread nD τ) M1 fullShare Y1 ∗ owns (c : Thread nD τ) M2 fullShare Y2 ∗ owns (c : Thread nD τ) M3 fullShare Y3
        ∗ owns (c : Thread nD τ) M4 fullShare Y4 ∗ (∃ X5, ⌜tableAfter i Y1 Y2 Y3 Y5 X5⌝ ∗ owns (c : Thread nD τ) M5 fullShare X5)
        ∗ owns (c : Thread nD τ) M6 fullShare (k0_pay3 Y4)) -∗ Q ⟨⟩))
    ⊢ wp frame (wpE (defs₀ (F := F)) 𝒱₀ c none) Set.univ (cc0__project_body i M1 w1 M2 w2 M3 w3 M4 w4 M5 w5 M6 w6) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5 e6
  have r1 := View.readAt_full M1.view f1 inb_S12800x128_S12800x128_0_0
  have r2 := View.readAt_full M2.view f2 inb_S1x128_S1x128_0_0
  have r3 := View.readAt_full M3.view f3 inb_S1x1_S1x1_0_0
  have r4 := View.readAt_full M4.view f4 inb_S26x2048_S26x2048_0_0
  have h6 := View.read_writes_full M6.view f6 inb_S53248_S53248_0 (k0_pay3 (M4.view.read (Elt F) f4)) []
  simp only [cc0__project_body_eq_skeleton]
  unfold cc0__project_body_skel
  have hi : (i 0).val < 8 := (i 0).isLt
  by_cases h7 : (i 0).val < 7
  · simp only [dif_pos ((cond1_iff i).mpr h7), dif_neg (fun h => absurd ((cond2_iff i).mp h) (by omega))]
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iapply (owns_some c M5 _ (tableAfter i (M1.view.read (Elt F) f1) (M2.view.read (Elt F) f2) (M3.view.read (Elt F) f3) (M5.view.read (Elt F) f5)) ?_) $$ H5
      exact table_store M5 f5 i _ _ _ _ _ (off1_val i) (.inl rfl) fun x r h => by
        rw [show x = r from funext fun | ⟨0, _⟩ => Fin.ext h.symm]
    · iexists _; isplitr
      rotate_left
      · iexact H6
      · ipureintro; exact h6
  · simp only [dif_neg (fun h => h7 ((cond1_iff i).mp h)), dif_pos ((cond2_iff i).mpr (by omega))]
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iapply (owns_some c M5 _ (tableAfter i (M1.view.read (Elt F) f1) (M2.view.read (Elt F) f2) (M3.view.read (Elt F) f3) (M5.view.read (Elt F) f5)) ?_) $$ H5
      refine table_store M5 f5 i _ _ _ _ _ ?_ (.inr (by decide)) fun x r h => ?_
      · show 89600 = _; omega
      · exact pay2_apply _ _ _ x r h
    · iexists _; isplitr
      rotate_left
      · iexact H6
      · ipureintro; exact h6

/-! ## What the windows hold -/

/-- The contents of a core's buffers as the TensorCore names them. -/
abbrev Vals (F : FTy → Type) := (c : Dev nD) → (b : Ref sig .tc) → Buf (Elt F) ((c : Thread nD τ).loc b)

variable (E : Vals F) (B : Dev nD → S100000.Idx → Elt F .f32 → Prop)

/-- The proof data of the call on core `c`, from the buffers at `E`: the weights' and the bias' windows stay at their arrays, each block of
    row numbers flattened over the output's block, and of the table's buffer after point `t` that `B` holds of its first `12800 (t + 1)` entries. -/
def rdat (c : Dev nD) : Pipeline.RDat τ (Elt F) (HIx 1) ℕ UU ℕ cfg0 c where
  A w := E c (Pipeline.arrRef spec0 w)
  after w t Y X :=
    match w, X with
    | ⟨0, _⟩, _ => True
    | ⟨1, _⟩, X => X = (E c main_arg2 : S1x128.Idx → Elt F .f32)
    | ⟨2, _⟩, X => X = (E c main_v0 : S1x1.Idx → Elt F .f32)
    | ⟨3, _⟩, _ => True
    | ⟨4, _⟩, X => ∀ i : S100000.Idx, (i 0).val < 12800 * (t.val + 1) → B c i (X i)
    | ⟨5, _⟩, X => ∀ (j : S53248.Idx) (i : S26x16384.Idx), 2048 * t.val ≤ (i 1).val → (i 1).val < 2048 * (t.val + 1) →
        (j 0).val = 2048 * (i 0).val + ((i 1).val - 2048 * t.val) → X j = (E c main_v1 : S26x16384.Idx → Elt F .i32) i
  Φ _ := iprop(emp)
  q _ := fullShare
  owed _ := (K (F := F)).Otc c 0
  recorded _ := {p | (K (F := F)).lev (T c, p.1) p.2 ≤ 0}

theorem coord_val : ∀ t : Fin cfg0.N, (grid0.coords t 0).val = t.val := by decide +kernel
theorem index0 : ∀ t : Fin cfg0.N, win0_0.index t = ![t.val, 0] := by decide +kernel
theorem index3 : ∀ t : Fin cfg0.N, win0_3.index t = ![0, t.val] := by decide +kernel
theorem index5 : ∀ t : Fin cfg0.N, win0_5.index t = ![t.val] := by decide +kernel

variable {E B}

theorem xsize0 : ∀ t : Fin cfg0.N, win0_0.xsize (grid0.coords t) = ![min 12800 (100000 - 12800 * t.val), 128] := by decide +kernel

/-- Where a block's element sits in its array. -/
theorem emb0 (t : Fin cfg0.N) (y : (win0_0.xblock (grid0.coords t)).Idx) (i : S100000x128.Idx)
    (h0 : (i 0).val = 12800 * t.val + (y 0).val) (h1 : (i 1).val = (y 1).val) : (win0_0.blk t).view.emb y = i := by
  have e := index0 t
  funext a; apply Fin.ext
  show ((win0_0.rect t).emb y a).val = _
  rw [Pipeline.Window.rect_emb_val (hk := rfl)]
  match a with
  | ⟨0, _⟩ => rw [e]; show t.val * 12800 + (y 0).val = (i 0).val; omega
  | ⟨1, _⟩ => rw [e]; show 0 * 128 + (y 1).val = (i 1).val; omega

/-- The first window's buffer holds the rows of the embedding's block that lie inside the array. -/
theorem finds0 {c : Dev nD} {t : Fin cfg0.N} {X} (h : (rdat E B c).Finds 0 t X) (j : S12800x128.Idx) (i : S100000x128.Idx)
    (h0 : (i 0).val = 12800 * t.val + (j 0).val) (h1 : (i 1).val = (j 1).val) :
    (X : S12800x128.Idx → Elt F .f32) j = (E c main_arg1 : S100000x128.Idx → Elt F .f32) i := by
  obtain ⟨d, rfl⟩ := ((rdat E B c).finds_of_fetch (fetch0_0 t) X).mp h
  have hi : (i 0).val < 100000 := (i 0).isLt
  have hj : (j 0).val < 12800 := (j 0).isLt
  have hj1 : (j 1).val < 128 := (j 1).isLt
  have hx : ∀ a, (j a).val < win0_0.xsize (grid0.coords t) a := fun a => by
    rw [xsize0 t]
    match a with
    | ⟨0, _⟩ => show (j 0).val < min 12800 (100000 - 12800 * t.val); omega
    | ⟨1, _⟩ => exact hj1
  let y : (win0_0.xblock (grid0.coords t)).Idx := fun a => ⟨(j a).val, hx a⟩
  have e := win0_0.fill_xinj (grid0.coords t) d ((rdat E B c).blockOf 0 t) y
  refine Eq.trans e ?_
  show (E c main_arg1 : S100000x128.Idx → Elt F .f32) ((win0_0.blk t).view.emb y) = _
  rw [emb0 t y i h0 h1]

/-- The fourth window's buffer holds its block of row numbers. -/
theorem finds3 {c : Dev nD} {t : Fin cfg0.N} {X} (h : (rdat E B c).Finds 3 t X) (j : S26x2048.Idx) (i : S26x16384.Idx)
    (h0 : (i 0).val = (j 0).val) (h1 : (i 1).val = 2048 * t.val + (j 1).val) :
    (X : S26x2048.Idx → Elt F .i32) j = (E c main_v1 : S26x16384.Idx → Elt F .i32) i := by
  obtain ⟨d, rfl⟩ := ((rdat E B c).finds_of_fetch (fetch0_3 t) X).mp h
  show (E c main_v1 : S26x16384.Idx → Elt F .i32) ((win0_3.blk t).view.emb j) = _
  congr 1
  have e := index3 t
  funext a; apply Fin.ext
  show ((win0_3.rect t).emb j a).val = _
  rw [Pipeline.Window.rect_emb_val (hk := rfl)]
  match a with
  | ⟨0, _⟩ => rw [e]; show 0 * 26 + (j 0).val = (i 0).val; omega
  | ⟨1, _⟩ => rw [e]; show t.val * 2048 + (j 1).val = (i 1).val; omega

theorem index1 : ∀ t : Fin cfg0.N, win0_1.index t = ![0, 0] := by decide +kernel
theorem index2 : ∀ t : Fin cfg0.N, win0_2.index t = ![0, 0] := by decide +kernel

theorem noflush1 : ∀ t : Fin cfg0.N, (cfg0.win 1).flush t = false := by decide +kernel
theorem noflush2 : ∀ t : Fin cfg0.N, (cfg0.win 2).flush t = false := by decide +kernel
theorem nofetch4 : ∀ t : Fin cfg0.N, (cfg0.win 4).fetch t = false := by decide +kernel

/-- The weights' window holds the weights at every point. -/
theorem finds1 {c : Dev nD} {t : Fin cfg0.N} {X} (h : (rdat E B c).Finds 1 t X) : X = (E c main_arg2 : S1x128.Idx → Elt F .f32) := by
  by_cases hf : (cfg0.win 1).fetch t = true
  · obtain ⟨d, rfl⟩ := ((rdat E B c).finds_of_fetch hf X).mp h
    funext j
    show (E c main_arg2 : S1x128.Idx → Elt F .f32) ((win0_1.blk t).view.emb j) = _
    congr 1
    have e := index1 t
    funext a; apply Fin.ext
    show ((win0_1.rect t).emb j a).val = _
    rw [Pipeline.Window.rect_emb_val (hk := rfl)]
    match a with
    | ⟨0, _⟩ => rw [e]; show 0 * 1 + (j 0).val = (j 0).val; omega
    | ⟨1, _⟩ => rw [e]; show 0 * 128 + (j 1).val = (j 1).val; omega
  · have h0 : t.val ≠ 0 := fun e => hf ((fetch0_1 t).mpr (by omega))
    rcases ((rdat E B c).finds_of_pos (Bool.eq_false_iff.mpr hf) h0 X).mp h with hfl | ⟨Y, -, hY⟩
    · exact absurd hfl (Bool.eq_false_iff.mp (noflush1 _))
    · exact hY

/-- The bias' window holds the bias at every point. -/
theorem finds2 {c : Dev nD} {t : Fin cfg0.N} {X} (h : (rdat E B c).Finds 2 t X) : X = (E c main_v0 : S1x1.Idx → Elt F .f32) := by
  by_cases hf : (cfg0.win 2).fetch t = true
  · obtain ⟨d, rfl⟩ := ((rdat E B c).finds_of_fetch hf X).mp h
    funext j
    show (E c main_v0 : S1x1.Idx → Elt F .f32) ((win0_2.blk t).view.emb j) = _
    congr 1
    have e := index2 t
    funext a; apply Fin.ext
    show ((win0_2.rect t).emb j a).val = _
    rw [Pipeline.Window.rect_emb_val (hk := rfl)]
    match a with
    | ⟨0, _⟩ => rw [e]; show 0 * 1 + (j 0).val = (j 0).val; omega
    | ⟨1, _⟩ => rw [e]; show 0 * 1 + (j 1).val = (j 1).val; omega
  · have h0 : t.val ≠ 0 := fun e => hf ((fetch0_2 t).mpr (by omega))
    rcases ((rdat E B c).finds_of_pos (Bool.eq_false_iff.mpr hf) h0 X).mp h with hfl | ⟨Y, -, hY⟩
    · exact absurd hfl (Bool.eq_false_iff.mp (noflush2 _))
    · exact hY

/-- The table's window: `B` holds of every entry the points before this one computed. -/
theorem finds4 {c : Dev nD} {t : Fin cfg0.N} {X} (h : (rdat E B c).Finds 4 t X) (i : S100000.Idx) (hi : (i 0).val < 12800 * t.val) :
    B c i ((X : S100000.Idx → Elt F .f32) i) := by
  have h0 : t.val ≠ 0 := by omega
  have ht : t.val < 8 := t.isLt
  rcases ((rdat E B c).finds_of_pos (nofetch4 t) h0 X).mp h with hfl | ⟨Y, -, hY⟩
  · have := (flush0_4 _).mp hfl
    exact absurd this (by show ¬ (t.val - 1) % 8 = 7; omega)
  · exact hY i (by show _ < 12800 * (t.val - 1 + 1); omega)

/-- The flattened block of row numbers at an index. -/
theorem pay3_apply (Y4 : Vec F S26x2048 .i32) (j : S53248.Idx) (i : S26x2048.Idx) (h : (j 0).val = 2048 * (i 0).val + (i 1).val) :
    k0_pay3 Y4 j = Y4 i := by
  unfold k0_pay3
  pointwise
  have hi : (i 1).val < 2048 := (i 1).isLt
  congr 1
  funext a; apply Fin.ext
  match a with
  | ⟨0, _⟩ => show (j 0).val / 2048 = (i 0).val; omega
  | ⟨1, _⟩ => show (j 0).val % 2048 = (i 1).val; omega

/-- What the table's entries are: whatever is computed from a block of the embedding satisfies `B`. -/
def Fills (E : Vals F) (B : Dev nD → S100000.Idx → Elt F .f32 → Prop) : Prop :=
  ∀ (c : Dev nD) (t : ℕ) (e : S12800x128.Idx → Elt F .f32), t < 8 →
    (∀ (j : S12800x128.Idx) (i : S100000x128.Idx), (i 0).val = 12800 * t + (j 0).val → (i 1).val = (j 1).val →
      e j = (E c main_arg1 : S100000x128.Idx → Elt F .f32) i) →
    ∀ (r : S12800.Idx) (i : S100000.Idx), (i 0).val = 12800 * t + (r 0).val →
      B c i (k0_pay1 e (E c main_arg2 : S1x128.Idx → Elt F .f32) (E c main_v0 : S1x1.Idx → Elt F .f32) r)

/-- The body meets its windows' data at every point. -/
theorem rdat_body (hB : Fills E B) (c : Dev nD) : (rdat E B c).BodyObligation (defs₀ (F := F)) 𝒱₀ none Set.univ := by
  intro t Y hY
  have e1 := finds1 (hY 1)
  have e2 := finds2 (hY 2)
  have ht : t.val < 8 := t.isLt
  rw [show (defs₀ (F := F)) .tc cfg0.body (cfg0.bodyArgs t (cfg0.slots t)) = bodyAt0 t from rfl]
  unfold bodyAt0
  rw [bigSep_W0, bigSep_W0]
  iintro ⟨HΦ, HO, H0, H1, H2, H3, H4, H5⟩
  iapply project_run c (grid0.coords t) _ _ _ _ _ _ _ _ _ _ _ _ (Y 0) (Y 1) (Y 2) (Y 3) (Y 4) (Y 5) $$ [H0 H1 H2 H3 H4 H5 HO]
  isplitl [H0]; · iexact H0
  isplitl [H1]; · iexact H1
  isplitl [H2]; · iexact H2
  isplitl [H3]; · iexact H3
  isplitl [H4]; · iexact H4
  isplitl [H5]; · iexact H5
  iintro ⟨H0, H1, H2, H3, ⟨%X4, %hX4, H4⟩, H5⟩
  isplitr
  · iempintro
  isplitl [HO]
  · iexact HO
  isplitl [H0]
  · iexists _; isplitr
    rotate_left
    · iexact H0
    · ipureintro; trivial
  isplitl [H1]
  · iexists _; isplitr
    rotate_left
    · iexact H1
    · ipureintro; exact e1
  isplitl [H2]
  · iexists _; isplitr
    rotate_left
    · iexact H2
    · ipureintro; exact e2
  isplitl [H3]
  · iexists _; isplitr
    rotate_left
    · iexact H3
    · ipureintro; trivial
  isplitl [H4]
  · iexists _; isplitr
    rotate_left
    · iexact H4
    · ipureintro
      intro i hi
      have hc := coord_val t
      rcases Nat.lt_or_ge (i 0).val (12800 * t.val) with hlt | hge
      · rw [(hX4 i).2 (by rw [hc]; exact hlt)]
        exact finds4 (hY 4) i hlt
      · have hr : (i 0).val - 12800 * t.val < 12800 := by omega
        let r : S12800.Idx := fun | ⟨0, _⟩ => ⟨(i 0).val - 12800 * t.val, hr⟩
        have hri : (i 0).val = 12800 * t.val + (r 0).val := by show _ = 12800 * t.val + ((i 0).val - 12800 * t.val); omega
        rw [(hX4 i).1 r (by rw [hc]; exact hri), e1, e2]
        exact hB c t.val (Y 0) ht (finds0 (hY 0)) r i hri
  · iexists _; isplitr
    rotate_left
    · iexact H5
    · ipureintro
      intro j i hlo hhi hj
      have hi : (i 1).val - 2048 * t.val < 2048 := by omega
      let k : S26x2048.Idx := fun | ⟨0, _⟩ => ⟨(i 0).val, (i 0).isLt⟩ | ⟨1, _⟩ => ⟨(i 1).val - 2048 * t.val, hi⟩
      exact (pay3_apply (Y 3) j k hj).trans (finds3 (hY 3) k i rfl (by show _ = 2048 * t.val + ((i 1).val - 2048 * t.val); omega))

/-! ## What the call leaves in its results -/

/-- `B` holds of every entry of the table the call leaves. -/
theorem table_exit [∀ e, Nonempty (Elt F e)] {c : Dev nD} {G} (hG : (rdat E B c).ArrAt 4 cfg0.N G) (i : S100000.Idx) : B c i ((G : S100000.Idx → Elt F .f32) i) := by
  obtain ⟨X, ⟨Y, -, hX⟩, e⟩ := hG.emb_eq_of_wholeAt (t₀ := (⟨7, by decide⟩ : Fin cfg0.N)) (by decide +kernel)
  have hi : (i 0).val < 100000 := (i 0).isLt
  have e' := e i
  rw [show (G : S100000.Idx → Elt F .f32) i = X i from e']
  exact hX i (by show (i 0).val < 12800 * (7 + 1); omega)

/-- The flattened row numbers the call leaves: by blocks of 2048 columns, row by row in each. -/
theorem rows_exit [∀ e, Nonempty (Elt F e)] {c : Dev nD} {G} (hG : (rdat E B c).ArrAt 5 cfg0.N G) (k : S425984.Idx) (i : S26x16384.Idx)
    (hk : (k 0).val = 53248 * ((i 1).val / 2048) + 2048 * (i 0).val + (i 1).val % 2048) :
    (G : S425984.Idx → Elt F .i32) k = (E c main_v1 : S26x16384.Idx → Elt F .i32) i := by
  obtain ⟨X, hX, hA⟩ := hG.exists_exact
  have e := hA (Function.update (fun _ _ _ => Classical.arbitrary _) 5 X) fun u _ _ => by rw [Function.update_self]
  rw [e]
  have hall := ((rdat E B c).withAfter (Function.update (fun _ _ _ => Classical.arbitrary _) 5 X)).arrAt_forall_of_covers 5
    (fun (k : S425984.Idx) (v : Elt F .i32) => ∀ i : S26x16384.Idx, (k 0).val = 53248 * ((i 1).val / 2048) + 2048 * (i 0).val + (i 1).val % 2048 →
      v = (E c main_v1 : S26x16384.Idx → Elt F .i32) i) (by decide +kernel) (fun t hf y i hi => ?_) k
  · exact hall i hk
  · obtain ⟨Y, -, hXt⟩ := hX t t.isLt hf
    have e5 := index5 t
    have ht : t.val < 8 := t.isLt
    have hpos : (((cfg0.win 5).blk t).view.emb y 0 : ℕ) = 53248 * t.val + (y 0).val := by
      show ((win0_5.rect t).emb y 0).val = _
      rw [Pipeline.Window.rect_emb_val (hk := rfl), e5]
      show t.val * 53248 + (y 0).val = _; omega
    have hy : (y 0).val < 53248 := (y 0).isLt
    have h1 : (i 1).val < 16384 := (i 1).isLt
    have h0 : (i 0).val < 26 := (i 0).isLt
    have hi' : 53248 * t.val + (y 0).val = 53248 * ((i 1).val / 2048) + 2048 * (i 0).val + (i 1).val % 2048 := hpos.symm.trans hi
    have hq : (i 1).val / 2048 = t.val := by omega
    rw [Pipeline.RDat.withAfter_after, Function.update_self]
    exact hXt y i (by omega) (by omega) (by show (y 0).val = _; omega)

/-! ## The call as a region -/

/-- No table is prefetched: the one admissible contents of none. -/
abbrev adm : (p : Fin 1) → (pcfgs (F := F) p).Adm := fun p => (cfgs p).toPCfg_adm

/-- The proof data of the program's one pipeline. -/
def rdats (E : Vals F) (B : Dev nD → S100000.Idx → Elt F .f32 → Prop) :
    (p : Fin 1) → (c : Dev nD) → Pipeline.RDat τ (Elt F) (HIx 1) ℕ UU ℕ (Pipeline.pin (pcfgs (F := F)) adm p) c
  | ⟨0, _⟩, c => rdat E B c

/-- What the TensorCore's call makes of its unscoped buffers at `W`: the table's entries are as `B` says, the row numbers flattened block by
    block, every other buffer as it was. -/
def Left (B : Dev nD → S100000.Idx → Elt F .f32 → Prop) (c : Dev nD) (W W' : Valuation τ sig (Elt F)) : Prop :=
  (∀ b : Ref sig .tc, b ≠ main_v2_0 → b ≠ main_v2_1 → W' b = W b)
    ∧ (∀ i : S100000.Idx, B c i ((W' main_v2_0 : S100000.Idx → Elt F .f32) i))
    ∧ ∀ (k : S425984.Idx) (i : S26x16384.Idx), (k 0).val = 53248 * ((i 1).val / 2048) + 2048 * (i 0).val + (i 1).val % 2048 →
        (W' main_v2_1 : S425984.Idx → Elt F .i32) k = (W main_v1 : S26x16384.Idx → Elt F .i32) i

/-- What the TensorCore owes while it waits for nothing of a call: the calls to come, with only kernel-local waits on record. -/
def idleOwes (c : Dev nD) : sProp 𝕄 :=
  iprop(∃ R, ⌜(K (F := F)).WBelow (T c) R 0⌝ ∗ owes (T c) ((K (F := F)).Otc c 0) R)

/-- The core owes nothing on a kernel's own waits. -/
theorem otc_none (c : Dev nD) (g : GSem nD τ sig) : (K (F := F)).Otc c 0 g none = 0 := by
  by_contra h
  have := (K (F := F)).lev_of_Otc_pos (Nat.pos_of_ne_zero h)
  rw [SparseCore.Cfg.lev_none] at this
  omega

/-- The buffers with the call's two results set. -/
def withResults (V : Valuation τ sig (Elt F)) (v : S100000.Idx → Elt F .f32) (g : S425984.Idx → Elt F .i32) : Valuation τ sig (Elt F) :=
  Function.update (Function.update V (main_v2_0 : DevRef τ sig) v) (main_v2_1 : DevRef τ sig) g

theorem withResults_ne (V : Valuation τ sig (Elt F)) (v g) (b : Ref sig .tc) (hb : b ≠ main_v2_0) (hb' : b ≠ main_v2_1) :
    withResults V v g b = V b := by
  unfold withResults
  rw [Function.update_of_ne fun e => hb' (Proc.devRef_injective _ e), Function.update_of_ne fun e => hb (Proc.devRef_injective _ e)]

theorem withResults_rows (V : Valuation τ sig (Elt F)) (v g) : (withResults V v g main_v2_1 : S425984.Idx → Elt F .i32) = g :=
  Function.update_self ..

theorem withResults_table (V : Valuation τ sig (Elt F)) (v g) : (withResults V v g main_v2_0 : S100000.Idx → Elt F .f32) = v := by
  unfold withResults
  rw [Function.update_of_ne fun e => absurd (Proc.devRef_injective _ e) (by decide), Function.update_self]

/-- The buffers the call leaves are as `Left` says. -/
theorem withResults_left [∀ e, Nonempty (Elt F e)] (W : Dev nD → Valuation τ sig (Elt F)) (B : Dev nD → S100000.Idx → Elt F .f32 → Prop) (c : Dev nD)
    (v : S100000.Idx → Elt F .f32) (g : S425984.Idx → Elt F .i32)
    (hv : (rdat (fun c b => W c b) B c).ArrAt 4 cfg0.N v) (hg : (rdat (fun c b => W c b) B c).ArrAt 5 cfg0.N g) :
    Left B c (W c) (withResults (W c) v g) := by
  refine ⟨withResults_ne _ v g, fun i => ?_, fun k i h => ?_⟩
  · rw [withResults_table]; exact table_exit hv i
  · rw [withResults_rows]; exact rows_exit hg k i h

/-- The TensorCore's unscoped buffers one by one: the call's six arrays, then the others. -/
theorem unscoped_all (c : Dev nD) (V : (b : Ref sig .tc) → Buf (Elt F) ((c : Thread nD τ).loc b)) :
    (unscopedBufs c V : sProp 𝕄) = iprop((((c : Thread nD τ).loc main_arg1 ↦{fullShare} V main_arg1) ∗ ((c : Thread nD τ).loc main_arg2 ↦{fullShare} V main_arg2)
        ∗ ((c : Thread nD τ).loc main_v0 ↦{fullShare} V main_v0) ∗ ((c : Thread nD τ).loc main_v1 ↦{fullShare} V main_v1)
        ∗ ((c : Thread nD τ).loc main_v2_0 ↦{fullShare} V main_v2_0) ∗ ((c : Thread nD τ).loc main_v2_1 ↦{fullShare} V main_v2_1))
      ∗ ((c : Thread nD τ).loc main_arg0 ↦{fullShare} V main_arg0) ∗ ((c : Thread nD τ).loc main_arg3 ↦{fullShare} V main_arg3)
      ∗ ((c : Thread nD τ).loc main_v3 ↦{fullShare} V main_v3) ∗ ((c : Thread nD τ).loc main_v4 ↦{fullShare} V main_v4)
      ∗ ((c : Thread nD τ).loc main_v5 ↦{fullShare} V main_v5) ∗ ((c : Thread nD τ).loc main_v6 ↦{fullShare} V main_v6)) := by
  have hsplit := Pipeline.unscopedBufs_split (τ := τ) (Ix := HIx 1) (Name := ℕ) (U := UU) (Lvl := ℕ) (Val := Elt F) cfgs 0 launch0.win.arr_unscoped launch0.win.arr_inj c V
  rw [hsplit, bigSep_W0, unscopedRest0_eq]

/-- The buffers the call leaves, put back together. -/
theorem region_exit [∀ e, Nonempty (Elt F e)] (W : Dev nD → Valuation τ sig (Elt F)) (B : Dev nD → S100000.Idx → Elt F .f32 → Prop) (c : Dev nD) :
    iprop((rdat (fun c b => W c b) B c).arraysAt cfg0.N ∗ Pipeline.unscopedRest (Ix := HIx 1) (Name := ℕ) (U := UU) (Lvl := ℕ) spec0 c (fun b => W c b))
      ⊢ iprop(∃ W', ⌜Left B c (W c) W'⌝ ∗ unscopedBufs c (fun b => W' b)) := by
  have harr := Pipeline.RDat.arraysAt_eq (p := 0) (pcfgs (F := F)) adm (rdats (fun c b => W c b) B) c launch0.arr_whole
    ((rdats (fun c b => W c b) B 0 c).share_full fun _ => rfl) cfg0.N
  rw [show (rdat (fun c b => W c b) B c).arraysAt cfg0.N = _ from harr, bigSep_W0, unscopedRest0_eq]
  iintro ⟨⟨⟨%F0, %h0, H0⟩, ⟨%F1, %h1, H1⟩, ⟨%F2, %h2, H2⟩, ⟨%F3, %h3, H3⟩, ⟨%F4, %h4, H4⟩, ⟨%F5, %h5, H5⟩⟩, R0, R3, V3, V4, V5, V6⟩
  have h0' : F0 = W c main_arg1 := cast (congrFun ((rdats (fun c b => W c b) B 0 c).ArrAt_in 0 rfl _) F0) h0
  have h1' : F1 = W c main_arg2 := cast (congrFun ((rdats (fun c b => W c b) B 0 c).ArrAt_in 1 rfl _) F1) h1
  have h2' : F2 = W c main_v0 := cast (congrFun ((rdats (fun c b => W c b) B 0 c).ArrAt_in 2 rfl _) F2) h2
  have h3' : F3 = W c main_v1 := cast (congrFun ((rdats (fun c b => W c b) B 0 c).ArrAt_in 3 rfl _) F3) h3
  subst h0' h1' h2' h3'
  iexists withResults (W c) F4 F5
  isplitr
  · ipureintro
    exact withResults_left W B c F4 F5 h4 h5
  rw [unscoped_all, withResults_table, withResults_rows]
  rw [withResults_ne _ F4 F5 main_arg1 (by decide) (by decide), withResults_ne _ F4 F5 main_arg2 (by decide) (by decide),
    withResults_ne _ F4 F5 main_v0 (by decide) (by decide), withResults_ne _ F4 F5 main_v1 (by decide) (by decide),
    withResults_ne _ F4 F5 main_arg0 (by decide) (by decide), withResults_ne _ F4 F5 main_arg3 (by decide) (by decide),
    withResults_ne _ F4 F5 main_v3 (by decide) (by decide), withResults_ne _ F4 F5 main_v4 (by decide) (by decide),
    withResults_ne _ F4 F5 main_v5 (by decide) (by decide), withResults_ne _ F4 F5 main_v6 (by decide) (by decide)]
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [R0]; · iexact R0
  isplitl [R3]; · iexact R3
  isplitl [V3]; · iexact V3
  isplitl [V4]; · iexact V4
  isplitl [V5]; · iexact V5
  iexact V6

set_option backward.isDefEq.respectTransparency.types false in
/-- The call as a region of the program: from the unscoped buffers at `W c` to them as `Left` says. -/
def reg [∀ e, Nonempty (Elt F e)] (W : Dev nD → Valuation τ sig (Elt F)) (B : Dev nD → S100000.Idx → Elt F .f32 → Prop)
    (hB : Fills (fun c b => W c b) B) :
    Pipeline.RDat.RegionSeg (pcfgs (F := F)) adm (rdats (fun c b => W c b) B) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := rdat_body hB c
  hwaits c := Pipeline.RDat.cellsWaits_intro _ _ _ _ c fun w s t => (K (F := F)).mayWait_none _ (otc_none c)
  pre c := iprop(unscopedBufs c (fun b => W c b) ∗ idleOwes c)
  post c := iprop(∃ W', ⌜Left B c (W c) W'⌝ ∗ unscopedBufs c (fun b => W' b) ∗ idleOwes c)
  X _ := iprop(emp)
  Y _ := iprop(emp)
  Z c := Pipeline.unscopedRest (Ix := HIx 1) (Name := ℕ) (U := UU) (Lvl := ℕ) spec0 c (fun b => W c b)
  hentry c := by
    rw [Pipeline.ownSems0_none]
    have hsplit := Pipeline.RDat.arrays_of_unscopedBufs (p := 0) (pcfgs (F := F)) adm (rdats (fun c b => W c b) B) launch0.win
      launch0.arr_whole c ((rdats (fun c b => W c b) B 0 c).share_full fun _ => rfl) (fun b => W c b) fun _ => rfl
    unfold idleOwes
    iintro ⟨⟨Hub, ⟨%R, %hR, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists R; isplitr; · ipureintro; exact fun p hp => Or.inl (hR p hp)
      iexact HO
    isplitr; · iempintro
    iexact Hrest
  hin c := by
    rw [show (rdats (fun c b => W c b) B 0 c).Φ 0 = BI.emp from rfl]
    iintro -
    iempintro
  hout c := by
    rw [Pipeline.ownSems0_none, show Pipeline.scopedRest (Ix := HIx 1) (Name := ℕ) (U := UU) (Lvl := ℕ) (Val := Elt F) spec0 c = BI.emp from scopedRest0_eq c]
    iintro -
    isplitr; · iempintro
    isplitr; · iempintro
    iempintro
  hexit c := by
    have hj := region_exit W B c
    unfold idleOwes
    iintro ⟨Ha, HO, -, Hr⟩
    ihave H := hj $$ [Ha Hr]
    · isplitl [Ha]; · iexact Ha
      iexact Hr
    icases H with ⟨%W', %hW', H⟩
    imodintro
    iexists W'
    isplitr; · ipureintro; exact hW'
    isplitl [H]; · iexact H
    unfold Pipeline.RDat.owesAt Pipeline.owesWithin
    icases HO with ⟨%R, %hR, HO⟩
    iexists R
    isplitr
    · ipureintro
      intro p hp
      rcases hR hp with h | ⟨w, s, h⟩
      · exact h
      · rw [h]; exact le_of_eq ((K (F := F)).lev_none _)
    iexact HO

end Cert.Proof.Sc
-- ==== Proof.Host.lean ====
/-
  The host operations of the program around its two calls: what the arrays hold between them, element by element.
-/
module

public import proofs.«01_k».proof.Proof.Region

@[expose] public section

noncomputable section

namespace Cert.Proof.Sc

open Cert.KernelIdeal Cert.KernelIdeal.Gen

open Idealize.ShloMosaic Idealize.ShloMosaic.TcCoe

variable {F : FTy → Type} [FloatOps F]
variable (m : (ℓ : Loc nD τ sig) → Buf (Elt F) ℓ)

/-! ## The five operations -/

abbrev biasOp : HloOp τ sig (Elt F) := StableHlo.reshape main_arg3 main_v0 (rfl : (.f32 : EltTy) = .f32) shapeCasts_S1_S1x1
abbrev turnOp : HloOp τ sig (Elt F) := StableHlo.unary main_arg0 main_v1
  ((transpose S26x16384 [1, 0] · transposes_S16384x26_S26x16384_1_0) : (⟨S16384x26, .i32⟩ : BufTy).Contents (Elt F) → (⟨S26x16384, .i32⟩ : BufTy).Contents (Elt F))
abbrev groupOp : HloOp τ sig (Elt F) := StableHlo.reshape main_v2_1 main_v3 (rfl : (.i32 : EltTy) = .i32) shapeCasts_S425984_S8x26x2048
abbrev backOp : HloOp τ sig (Elt F) := StableHlo.unary main_v4 main_v5
  ((transpose S16384x26 [1, 0] · transposes_S26x16384_S16384x26_1_0) : (⟨S26x16384, .f32⟩ : BufTy).Contents (Elt F) → (⟨S16384x26, .f32⟩ : BufTy).Contents (Elt F))
abbrev lastOp : HloOp τ sig (Elt F) := StableHlo.reshape main_v5 main_v6 (rfl : (.f32 : EltTy) = .f32) shapeCasts_S16384x26_S16384x26x1

/-! ## Before the TensorCore call -/

/-- The arrays at the start, -/
def atStart (d : Dev nD) : Valuation τ sig (Elt F) := fun b => m (d, b)
/-- and when the TensorCore call begins. -/
def atCall (d : Dev nD) : Valuation τ sig (Elt F) := turnOp.result (biasOp.result (atStart m d))

/-- An array neither operation writes is as it was at the start. -/
theorem atCall_ne (d : Dev nD) (b : Ref sig .tc) (h0 : b ≠ main_v0) (h1 : b ≠ main_v1) : atCall m d b = m ((d : Thread nD τ).loc b) := by
  unfold atCall
  rw [StableHlo.unary_result_ne (h := h1), StableHlo.reshape_result_ne (h := h0)]
  rfl

/-- The bias as the call takes it. -/
theorem atCall_bias (d : Dev nD) (i : S1x1.Idx) (j : S1.Idx) : (atCall m d main_v0 : S1x1.Idx → Elt F .f32) i = (m ((d : Thread nD τ).loc main_arg3) : S1.Idx → Elt F .f32) j := by
  unfold atCall
  rw [StableHlo.unary_result_ne (h := by decide), StableHlo.reshape_result]
  refine congrArg (m ((d : Thread nD τ).loc main_arg3) : S1.Idx → Elt F .f32) (funext fun a => Fin.ext ?_)
  match a with
  | ⟨0, _⟩ => exact (Nat.lt_one_iff.1 (Fin.isLt _)).trans (Nat.lt_one_iff.1 (Fin.isLt _)).symm

/-- The index array as the call takes it: transposed. -/
theorem atCall_rows (d : Dev nD) (i : S26x16384.Idx) (j : S16384x26.Idx) (h0 : (j 0).val = (i 1).val) (h1 : (j 1).val = (i 0).val) :
    (atCall m d main_v1 : S26x16384.Idx → BitVec 32) i = (m ((d : Thread nD τ).loc main_arg0) : S16384x26.Idx → BitVec 32) j := by
  unfold atCall
  rw [StableHlo.unary_result, StableHlo.reshape_result_ne (h := by decide)]
  refine congrArg (m ((d : Thread nD τ).loc main_arg0) : S16384x26.Idx → BitVec 32) (funext fun a => Fin.ext ?_)
  match a with
  | ⟨0, _⟩ => exact h0.symm
  | ⟨1, _⟩ => exact h1.symm

/-! ## Between the calls -/

/-- Where entry `(g, f, j)` of the grouped index array comes from in the program's index array. -/
def src (i : S8x26x2048.Idx) : S16384x26.Idx
  | ⟨0, _⟩ => ⟨(i 0).val * 2048 + (i 2).val, by have h0 : (i 0).val < 8 := (i 0).isLt; have h2 : (i 2).val < 2048 := (i 2).isLt; show _ < 16384; omega⟩
  | ⟨1, _⟩ => ⟨(i 1).val, (i 1).isLt⟩

/-- The index array in groups, as the SparseCore call takes it. -/
def grouped (d : Dev nD) : S8x26x2048.Idx → BitVec 32 := fun i => (m ((d : Thread nD τ).loc main_arg0) : S16384x26.Idx → BitVec 32) (src i)

/-- Reshaping what the TensorCore call leaves gives the index array in groups. -/
theorem grouped_eq (B : Dev nD → S100000.Idx → Elt F .f32 → Prop) (d : Dev nD) (W' : Valuation τ sig (Elt F)) (h : Left B d (atCall m d) W') :
    (groupOp.result W' main_v3 : S8x26x2048.Idx → BitVec 32) = grouped m d := by
  rw [StableHlo.reshape_result]
  funext i
  have h0 : (i 0).val < 8 := (i 0).isLt
  have h1 : (i 1).val < 26 := (i 1).isLt
  have h2 : (i 2).val < 2048 := (i 2).isLt
  let t : S26x16384.Idx := fun
    | ⟨0, _⟩ => ⟨(i 1).val, h1⟩
    | ⟨1, _⟩ => ⟨(i 0).val * 2048 + (i 2).val, by show _ < 16384; omega⟩
  show (shapeCast S8x26x2048 (W' main_v2_1 : S425984.Idx → BitVec 32) _ i : BitVec 32) = _
  pointwise
  refine (h.2.2 _ t ?_).trans (atCall_rows m d t (src i) rfl rfl)
  show (i 0).val * 53248 + (i 1).val * 2048 + (i 2).val
    = 53248 * (((i 0).val * 2048 + (i 2).val) / 2048) + 2048 * (i 1).val + ((i 0).val * 2048 + (i 2).val) % 2048
  omega

/-! ## After the SparseCore call -/

/-- The row and column of the program's index array that an entry of the result belongs to. -/
def cell (i : S16384x26x1.Idx) : S16384x26.Idx
  | ⟨0, _⟩ => i 0
  | ⟨1, _⟩ => i 1

/-- The same entry in the SparseCore call's result. -/
def turned (i : S16384x26x1.Idx) : S26x16384.Idx
  | ⟨0, _⟩ => i 1
  | ⟨1, _⟩ => i 0

theorem src_grp (i : S16384x26x1.Idx) : src (grp (turned i)) = cell i := by
  funext a
  match a with
  | ⟨0, _⟩ => exact Fin.ext (show (i 0).val / 2048 * 2048 + (i 0).val % 2048 = (i 0).val by omega)
  | ⟨1, _⟩ => rfl

/-- The program's result is the SparseCore call's, transposed and reshaped. -/
theorem result_eq (V : Valuation τ sig (Elt F)) (i : S16384x26x1.Idx) :
    (lastOp.result (backOp.result V) main_v6 : S16384x26x1.Idx → Elt F .f32) i = (V main_v4 : S26x16384.Idx → Elt F .f32) (turned i) := by
  rw [StableHlo.reshape_result, StableHlo.unary_result]
  show (shapeCast S16384x26x1 (transpose S16384x26 [1, 0] (V main_v4 : S26x16384.Idx → Elt F .f32) transposes_S26x16384_S16384x26_1_0) _ i : Elt F .f32) = _
  pointwise
  refine congrArg (V main_v4 : S26x16384.Idx → Elt F .f32) (funext fun a => ?_)
  match a with
  | ⟨0, _⟩ => rfl
  | ⟨1, _⟩ => rfl

end Cert.Proof.Sc
-- ==== Proof.Tile.lean ====
/-
  One tile's part of the SparseCore kernel, at symbolic coordinates: the table and the tile's 26 × 512 row numbers are
  brought in, each chunk of 16 row numbers is looked up in the table, and the looked-up values go out in two halves of
  13 rows. What the tile leaves in its block of the result is `yOf` of the table and the row numbers.
-/
module

public import proofs.«01_k».proof.Proof.Setup
public import Idealize.ShloMosaic.Lib.Pipeline.Value

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "vV" => (Memref.whole Cert.KernelIdeal.main_v2_0_scv : Memref Cert.KernelIdeal.sig Kind.scVector Space.hbm Cert.KernelIdeal.S100000 EltTy.f32)
local notation "gV" => (Memref.whole Cert.KernelIdeal.main_v3_scv : Memref Cert.KernelIdeal.sig Kind.scVector Space.hbm Cert.KernelIdeal.S8x26x2048 EltTy.i32)
local notation "yV" => (Memref.whole Cert.KernelIdeal.main_v4_scv : Memref Cert.KernelIdeal.sig Kind.scVector Space.hbm Cert.KernelIdeal.S26x16384 EltTy.f32)
local notation "sT" => (Memref.whole Cert.KernelIdeal.cc1_scratch0 : Memref Cert.KernelIdeal.sig Kind.scVector Space.vmem Cert.KernelIdeal.S100000 EltTy.f32)
local notation "sI" => (Memref.whole Cert.KernelIdeal.cc1_scratch1 : Memref Cert.KernelIdeal.sig Kind.scVector Space.vmem Cert.KernelIdeal.S26x512 EltTy.i32)
local notation "sO" => (Memref.whole Cert.KernelIdeal.cc1_scratch2 : Memref Cert.KernelIdeal.sig Kind.scVector Space.vmem Cert.KernelIdeal.S26x512 EltTy.f32)

/-! ## The offsets the tile computes, in closed form -/

theorem trips1 : k1_t1_loop.trips = 416 := by decide +kernel
theorem trips2 : k1_t2_loop.trips = 416 := by decide +kernel
/-- Tile `(c, s)`, number `w = 2·s + c`, reads group `w / 4` from column `512·(w mod 4)` on. -/
theorem off1_eq : ∀ i : grid1.Coords, k1_off1 i = ![(2 * (i 1).val + (i 0).val) / 4, 0, (2 * (i 1).val + (i 0).val) % 4 * 512] := by decide +kernel
/-- Trip `t` of the first loop reads and writes 16 entries of row `t / 32`; -/
theorem off2_eq : ∀ t : Fin k1_t1_loop.trips, k1_off2 t = ![t.val / 32, t.val % 32 * 16] := by decide +kernel
theorem off3_eq : ∀ t : Fin k1_t1_loop.trips, k1_off3 t = ![t.val / 32, t.val % 32 * 16] := by decide +kernel
/-- trip `t` of the second, of row `13 + t / 32`. -/
theorem off5_eq : ∀ t : Fin k1_t2_loop.trips, k1_off5 t = ![13 + t.val / 32, t.val % 32 * 16] := by decide +kernel
theorem off6_eq : ∀ t : Fin k1_t2_loop.trips, k1_off6 t = ![13 + t.val / 32, t.val % 32 * 16] := by decide +kernel

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

/-- The tile's slice of the row numbers, squeezed; its two slices of the result; the two halves of its output scratch. -/
abbrev gK (L : grid1.Coords) : Memref sig .scVector .hbm S26x512 .i32 :=
  ((gV).slice (Rect.unit (s := S8x26x2048) (k1_off1 L) S1x26x512.size (k1_off1_inb L)) (fun _ => rfl)).squeeze S26x512 squeezes_S1x26x512_S26x512
abbrev yK0 (L : grid1.Coords) : Memref sig .scVector .hbm S13x512 .f32 :=
  (yV).slice (Rect.unit (s := S26x16384) (k1_off4 L) S13x512.size (k1_off4_inb L)) (fun _ => rfl)
abbrev yK1 (L : grid1.Coords) : Memref sig .scVector .hbm S13x512 .f32 :=
  (yV).slice (Rect.unit (s := S26x16384) (k1_off7 L) S13x512.size (k1_off7_inb L)) (fun _ => rfl)
abbrev oK0 : Memref sig .scVector .vmem S13x512 .f32 := (sO).slice (Rect.unit (s := S26x512) ![0, 0] S13x512.size inb_S26x512_S13x512_0_0) (fun _ => rfl)
abbrev oK1 : Memref sig .scVector .vmem S13x512 .f32 := (sO).slice (Rect.unit (s := S26x512) ![13, 0] S13x512.size inb_S26x512_S13x512_13_0) (fun _ => rfl)

/-- The tile's number is below 32. -/
theorem L0_lt : (L 0).val < 2 := (L 0).isLt
theorem L1_lt : (L 1).val < 16 := (L 1).isLt

theorem mem_yset (off : Fin 2 → ℕ) (inb : ∀ a, off a + S13x512.size a ≤ S26x16384.size a) (h : ℕ)
    (e : off = ![13 * h, 1024 * (L 1).val + 512 * (L 0).val]) :
    ((yV).slice (Rect.unit (s := S26x16384) off S13x512.size inb) (fun _ => rfl)).view.set = blk h (cL L) (jL L) := by
  subst e
  show ((yV).view.slice _).set = _
  rw [View.set_slice]
  refine Finset.map_refl.trans ?_
  ext i
  have h0 : (i 0).val < 26 := (i 0).isLt
  have h1 : (i 1).val < 16384 := (i 1).isLt
  rw [Rect.mem_set_unit]
  simp only [blk, Finset.mem_filter, Finset.mem_univ, true_and, Fin.val_cast]
  refine Iff.trans (Fin.forall_fin_two (p := fun a : Fin 2 => ![13 * h, 1024 * (L 1).val + 512 * (L 0).val] a ≤ (i a).val ∧
    (i a).val < ![13 * h, 1024 * (L 1).val + 512 * (L 0).val] a + ![13, 512] a)) ?_
  show (13 * h ≤ (i 0).val ∧ (i 0).val < 13 * h + 13) ∧
    (1024 * (L 1).val + 512 * (L 0).val ≤ (i 1).val ∧ (i 1).val < 1024 * (L 1).val + 512 * (L 0).val + 512) ↔ _
  constructor <;> intro hh <;> constructor <;> omega

/-- The tile's two slices of the result are its two blocks. -/
theorem set_yK0 : (yK0 L).view.set = blk 0 (cL L) (jL L) := mem_yset L _ (k1_off4_inb L) 0 (k1_off4_eq L)
theorem set_yK1 : (yK1 L).view.set = blk 1 (cL L) (jL L) := mem_yset L _ (k1_off7_inb L) 1 (k1_off7_eq L)

/-- Entry `j` of the tile's slice of the row numbers is the entry `grp` names for the result element the tile writes `j` to. -/
theorem gK_emb (j : S26x512.Idx) (i : S26x16384.Idx) (h0 : (i 0).val = (j 0).val)
    (h1 : (i 1).val = 1024 * (L 1).val + 512 * (L 0).val + (j 1).val) : (gK L).view.emb j = grp i := by
  have hl0 := L0_lt L
  have hl1 := L1_lt L
  have hj0 : (j 0).val < 26 := (j 0).isLt
  have hj1 : (j 1).val < 512 := (j 1).isLt
  have e : Shape.reshapeEquiv (s := S1x26x512) (s' := S26x512) squeezes_S1x26x512_S26x512.numel_eq j
      = (fun a => match a with | ⟨0, _⟩ => ⟨0, Nat.one_pos⟩ | ⟨1, _⟩ => ⟨(j 0).val, hj0⟩ | ⟨2, _⟩ => ⟨(j 1).val, hj1⟩ : S1x26x512.Idx) := by
    apply Shape.reshapeEquiv_eq_of_rowMajor
    rw [Shape.rowMajor_val_two, Shape.rowMajor_val_three]
    show ((0 * 26 + (j 0).val) * 512 + (j 1).val) = (j 0).val * 512 + (j 1).val
    omega
  show (Rect.unit (s := S8x26x2048) (k1_off1 L) S1x26x512.size (k1_off1_inb L)).emb (Shape.reshapeEquiv squeezes_S1x26x512_S26x512.numel_eq j) = _
  rw [e]
  funext a
  apply Fin.ext
  rw [Rect.emb_apply]
  have o := congrFun (off1_eq L) a
  match a with
  | ⟨0, _⟩ =>
    refine (congrArg (· + 1 * 0) o).trans ?_
    show (2 * (L 1).val + (L 0).val) / 4 + 1 * 0 = (i 1).val / 2048; omega
  | ⟨1, _⟩ =>
    refine (congrArg (· + 1 * (j 0).val) o).trans ?_
    show 0 + 1 * (j 0).val = (i 0).val; omega
  | ⟨2, _⟩ =>
    refine (congrArg (· + 1 * (j 1).val) o).trans ?_
    show (2 * (L 1).val + (L 0).val) % 4 * 512 + 1 * (j 1).val = (i 1).val % 2048; omega

/-- What the output scratch holds once every row number is looked up. -/
def look (v : S100000.Idx → Elt F .f32) (w : S26x512.Idx → BitVec 32) (j : S26x512.Idx) : Elt F .f32 := pick v (w j)

/-- The tile's row numbers. -/
abbrev rows (g : S8x26x2048.Idx → BitVec 32) : S26x512.Idx → BitVec 32 := fun j => g ((gK L).view.emb j)

/-- Writing a half of the looked-up values through the tile's slice of the result leaves `yOf` there. -/
theorem out_val (v : S100000.Idx → Elt F .f32) (g : S8x26x2048.Idx → BitVec 32) (h : ℕ)
    (off : Fin 2 → ℕ) (inb : ∀ a, off a + S13x512.size a ≤ S26x16384.size a) (e : off = ![13 * h, 1024 * (L 1).val + 512 * (L 0).val])
    (off' : Fin 2 → ℕ) (inb' : ∀ a, off' a + S13x512.size a ≤ S26x512.size a) (e' : off' = ![13 * h, 0])
    (fy : S26x16384.Idx → Elt F .f32) (fo : S26x512.Idx → Elt F .f32)
    (ho : ∀ j : S26x512.Idx, (j 0).val / 13 = h → fo j = look v (rows L g) j) :
    ∀ i ∈ ((yV).slice (Rect.unit (s := S26x16384) off S13x512.size inb) (fun _ => rfl)).view.set,
      ((yV).slice (Rect.unit (s := S26x16384) off S13x512.size inb) (fun _ => rfl)).view.write (Elt F) fy
        (((sO).slice (Rect.unit (s := S26x512) off' S13x512.size inb') (fun _ => rfl)).view.read (Elt F) fo) Finset.univ i = yOf v g i := by
  subst e; subst e'
  intro i hi
  obtain ⟨x, -, rfl⟩ := Finset.mem_map.mp hi
  rw [View.write_emb_of_mem _ _ (Finset.mem_univ _), View.read_apply, cast_eq, cast_eq]
  have h0 : (x 0).val < 13 := (x 0).isLt
  have h1 : (x 1).val < 512 := (x 1).isLt
  refine (ho _ ?_).trans ?_
  · show (13 * h + 1 * (x 0).val) / 13 = h; omega
  · refine congrArg (fun k => pick v (g k)) (gK_emb L _ _ ?_ ?_)
    · rfl
    · show 1024 * (L 1).val + 512 * (L 0).val + 1 * (x 1).val = 1024 * (L 1).val + 512 * (L 0).val + (0 + 1 * (x 1).val); omega

/-! ## One trip: sixteen row numbers looked up -/

/-- The sixteen entries the chunk's store writes are the looked-up values, the others unchanged. -/
theorem trip_val (off : Fin 2 → ℕ) (inb : ∀ a, off a + S1x16.size a ≤ S26x512.size a) (v : S100000.Idx → Elt F .f32) (w : S26x512.Idx → BitVec 32)
    (fo : S26x512.Idx → Elt F .f32) (hw : ∀ j, (w j).toNat < 100000) (v' : S100000.Idx → Elt F .f32) (hv : v' = v) (x' : IVec S1x16 32)
    (hx' : x' = fun x => w ((Rect.unit (s := S26x512) off S1x16.size inb).emb x))
    (hidx : ∀ a x, ((![shapeCast S16 x' shapeCasts_S1x16_S16] : Fin 1 → IVec S16 32) a x).toNat < S100000.size a) (i : S26x512.Idx) :
    ((sO).access (Rect.unit (s := S26x512) off S1x16.size inb)).write (Elt F) fo
      (shapeCast S1x16 (loadIdx v' ![shapeCast S16 x' shapeCasts_S1x16_S16] hidx) shapeCasts_S16_S1x16)
      Finset.univ i
    = if i ∈ (Rect.unit (s := S26x512) off S1x16.size inb).set then look v w i else fo i := by
  subst hv; subst hx'
  split_ifs with hi
  · obtain ⟨x, rfl⟩ := LoadRect.exists_idx_of_mem _ hi
    refine (View.write_emb_of_mem (v := (sO).access (Rect.unit (s := S26x512) off S1x16.size inb)) fo _ (Finset.mem_univ x)).trans ?_
    rw [cast_eq]
    have h1 : (x 0).val < 1 := (x 0).isLt
    have h2 : (x 1).val < 16 := (x 1).isLt
    refine (shapeCast_apply (s := S16) (t := S1x16) _ shapeCasts_S16_S1x16 x (fun | ⟨0, _⟩ => ⟨(x 1).val, h2⟩) ?_).trans ?_
    · rw [Shape.rowMajor_val_two, Shape.rowMajor_val_one]
      show (x 1).val = (x 0).val * 16 + (x 1).val
      omega
    have e : shapeCast S16 (fun x => w ((Rect.unit (s := S26x512) off S1x16.size inb).emb x)) shapeCasts_S1x16_S16 (fun | ⟨0, _⟩ => ⟨(x 1).val, h2⟩)
        = w ((Rect.unit (s := S26x512) off S1x16.size inb).emb x) := by
      refine shapeCast_apply (s := S1x16) (t := S16) _ shapeCasts_S1x16_S16 _ x ?_
      rw [Shape.rowMajor_val_two, Shape.rowMajor_val_one]
      show (x 0).val * 16 + (x 1).val = (x 1).val
      omega
    unfold loadIdx look pick
    refine congrArg v' (funext fun a => Fin.ext ?_)
    match a with
    | ⟨0, _⟩ =>
      exact (congrArg BitVec.toNat e).trans (Nat.mod_eq_of_lt (hw _)).symm
  · refine View.write_of_not_mem (v := (sO).access (Rect.unit (s := S26x512) off S1x16.size inb)) fo _ _ ?_
    intro hm
    obtain ⟨x, -, e⟩ := Finset.mem_map.mp hm
    exact hi (e ▸ LoadRect.idx_mem _ x)

variable [FloatOps F]

/-- The tile's thread. -/
abbrev thr (d : Dev nD) (L : grid1.Coords) : Thread nD τ := V d (cV L) (jV L)

/-- One chunk as a program, over its offsets, its check and the proof the check gives. -/
def chunk (off : Fin 2 → ℕ) (inb : ∀ a, off a + S1x16.size a ≤ S26x512.size a) (off' : Fin 2 → ℕ) (inb' : ∀ a, off' a + S1x16.size a ≤ S26x512.size a)
    (R : IVec S16 32 → Prop) (dec : ∀ x, Decidable (R x))
    (hR : ∀ x, R x → ∀ a y, ((![x] : Fin 1 → IVec S16 32) a y).toNat < S100000.size a) :
    Prog (TpuEff nD τ sig (Elt F) Λ₀ (.scVector ((L 0).castLE hcore1) ((L 1).castLE hsub1))) PUnit := do
  let x : Vec F S1x16 .i32 ← Prog.lift (.load (sI) (Rect.unit (s := S26x512) off S1x16.size inb).toLoadRect (View.loadsAt_vmem h_S1x16))
  have x' : Vec F S16 .i32 := shapeCast S16 x shapeCasts_S1x16_S16
  have hx : R x' := (← Prog.lift (TpuEff.assume (R x') (dec x'))).down
  let y : Vec F S16 .f32 ← SparseCore.vectorLoadIdx (sT) ![x'] (hR x' hx) (View.loads_vmem h_S100000)
  let _ : Vec F S1x16 .f32 ← Prog.lift (.load (sO) (Rect.unit (s := S26x512) off' S1x16.size inb').toLoadRect (View.loadsAt_vmem h_S1x16))
  Prog.lift (.store (sO) (Rect.unit (s := S26x512) off' S1x16.size inb') (shapeCast S1x16 y shapeCasts_S16_S1x16) Finset.univ (View.stores_vmem_bits_univ h_S1x16 rfl) (.inl rfl))
  pure ⟨⟩

/-- One chunk: sixteen row numbers loaded and checked, the table's entries for them loaded and stored in the output scratch. -/
theorem chunk_wp (off : Fin 2 → ℕ) (inb : ∀ a, off a + S1x16.size a ≤ S26x512.size a) (off' : Fin 2 → ℕ) (inb' : ∀ a, off' a + S1x16.size a ≤ S26x512.size a)
    (hoff : off' = off) (R : IVec S16 32 → Prop) (dec : ∀ x, Decidable (R x))
    (hR : ∀ x, R x → ∀ a y, ((![x] : Fin 1 → IVec S16 32) a y).toNat < S100000.size a)
    (hR' : ∀ x : IVec S16 32, (∀ y, (x y).toNat < 100000) → R x)
    (v : S100000.Idx → Elt F .f32) (w : S26x512.Idx → BitVec 32) (hw : ∀ j, (w j).toNat < 100000) (fo : S26x512.Idx → Elt F .f32) (S : Finset S26x512.Idx)
    (hS : (Rect.unit (s := S26x512) off S1x16.size inb).set ⊆ S) :
    iprop(((sT).view.loc (thr d L) ↦{fullShare} v) ∗ ((sI).view.loc (thr d L) ↦{fullShare} w) ∗ ((sO).view.loc (thr d L) ↦[S]{fullShare} fo))
      ⊢ (wp frame (wpE (defs₀ (F := F)) 𝒱₀ (thr d L) none) Set.univ (chunk (F := F) L off inb off' inb' R dec hR)
        fun _ => iprop(((sT).view.loc (thr d L) ↦{fullShare} v) ∗ ((sI).view.loc (thr d L) ↦{fullShare} w)
          ∗ ((sO).view.loc (thr d L) ↦[S]{fullShare} fun i => if i ∈ (Rect.unit (s := S26x512) off S1x16.size inb).set then look v w i else fo i)) : sProp 𝕄) := by
  unfold chunk
  subst hoff
  simp only [Prog.lift, Prog.bind_op, Prog.bind_ret, Prog.pure_eq_ret]
  have hset : (sO).view.setOn (Rect.unit (s := S26x512) off' S1x16.size inb).toLoadRect.set ⊆ S := by
    intro i hi
    obtain ⟨x, hx, rfl⟩ := Finset.mem_map.mp hi
    exact hS hx
  have hset' : ((sO).access (Rect.unit (s := S26x512) off' S1x16.size inb)).setOn Finset.univ ⊆ S := by
    intro i hi
    obtain ⟨x, hx, rfl⟩ := Finset.mem_map.mp hi
    exact hS (LoadRect.idx_mem _ x)
  iintro ⟨Ht, Hi, Ho⟩
  iapply (wp_load 𝒱₀ (thr d L) none Set.univ (m := (sI)) (S := Finset.univ) (Finset.subset_univ _)) $$ Hi; iintro Hi
  have hchk : R (shapeCast S16 ((sI).view.readAt (Elt F) (Rect.unit (s := S26x512) off' S1x16.size inb).toLoadRect w) shapeCasts_S1x16_S16) :=
    hR' _ fun y => by unfold shapeCast; exact hw _
  rw [wp_assume_of _ _ _ _ hchk]
  iapply (SparseCore.wp_vectorLoadIdx 𝒱₀ (thr d L) none Set.univ (base := (sT)) (S := Finset.univ) (q := fullShare) (Finset.subset_univ _)) $$ Ht; iintro Ht
  iapply (wp_load 𝒱₀ (thr d L) none Set.univ (m := (sO)) (S := S) hset) $$ Ho; iintro Ho
  iapply (wp_store 𝒱₀ (thr d L) none Set.univ (m := (sO)) (r := Rect.unit (s := S26x512) off' S1x16.size inb) (Mk := Finset.univ) (S := S) hset') $$ Ho; iintro Ho
  rw [wp_ret]; imodintro
  isplitl [Ht]; · iexact Ht
  isplitl [Hi]; · iexact Hi
  have e := fun h => pointsTo_congr (q := fullShare) (ℓ := (sO).view.loc (thr d L)) (I := S) (Ix := HIx 1) (Name := ℕ) (U := UU) (Lvl := ℕ) fun i _ =>
    trip_val off' inb v w fo hw _ (Memref.read_access_whole (Elt F) cc1_scratch0 v)
      ((sI).view.readAt (Elt F) (Rect.unit (s := S26x512) off' S1x16.size inb).toLoadRect w) rfl h i
  iapply (Entails.of_eq (e _)) $$ Ho

/-! ## The two loops -/

/-- The elements of the output scratch in its half `h`. -/
def half (h : ℕ) : Finset S26x512.Idx := Finset.univ.filter fun j => (j 0).val / 13 = h

theorem set_half (h : ℕ) (off : Fin 2 → ℕ) (inb : ∀ a, off a + S13x512.size a ≤ S26x512.size a) (e : off = ![13 * h, 0]) :
    ((sO).slice (Rect.unit (s := S26x512) off S13x512.size inb) (fun _ => rfl)).view.set = half h := by
  subst e
  show ((sO).view.slice _).set = _
  rw [View.set_slice]
  refine Finset.map_refl.trans ?_
  ext i
  have h0 : (i 0).val < 26 := (i 0).isLt
  have h1 : (i 1).val < 512 := (i 1).isLt
  rw [Rect.mem_set_unit]
  simp only [half, Finset.mem_filter, Finset.mem_univ, true_and]
  refine Iff.trans (Fin.forall_fin_two (p := fun a : Fin 2 => ![13 * h, 0] a ≤ (i a).val ∧ (i a).val < ![13 * h, 0] a + ![13, 512] a)) ?_
  show (13 * h ≤ (i 0).val ∧ (i 0).val < 13 * h + 13) ∧ (0 ≤ (i 1).val ∧ (i 1).val < 0 + 512) ↔ _
  constructor
  · rintro ⟨_, _⟩; omega
  · intro hh; refine ⟨⟨?_, ?_⟩, ?_, ?_⟩ <;> omega

/-- The entries trip `t` of half `h` writes. -/
theorem mem_chunk (h t : ℕ) (off : Fin 2 → ℕ) (inb : ∀ a, off a + S1x16.size a ≤ S26x512.size a) (e : off = ![13 * h + t / 32, t % 32 * 16]) (i : S26x512.Idx) :
    i ∈ (Rect.unit (s := S26x512) off S1x16.size inb).set ↔ (i 0).val = 13 * h + t / 32 ∧ (i 1).val / 16 = t % 32 := by
  subst e
  rw [Rect.mem_set_unit]
  refine Iff.trans (Fin.forall_fin_two (p := fun a : Fin 2 => ![13 * h + t / 32, t % 32 * 16] a ≤ (i a).val ∧
    (i a).val < ![13 * h + t / 32, t % 32 * 16] a + ![1, 16] a)) ?_
  show (13 * h + t / 32 ≤ (i 0).val ∧ (i 0).val < 13 * h + t / 32 + 1) ∧ (t % 32 * 16 ≤ (i 1).val ∧ (i 1).val < t % 32 * 16 + 16) ↔ _
  constructor
  · rintro ⟨_, _⟩; omega
  · rintro ⟨_, _⟩; refine ⟨⟨?_, ?_⟩, ?_, ?_⟩ <;> omega

/-- A loop's invariant before trip `n`: the table and the row numbers held, and half `h` of the output scratch holding the
    looked-up values on its first `n` chunks. -/
def inv (h : ℕ) (v : S100000.Idx → Elt F .f32) (w : S26x512.Idx → BitVec 32) (n : ℕ) (_ : Unit) : sProp 𝕄 :=
  iprop(((sT).view.loc (thr d L) ↦{fullShare} v) ∗ ((sI).view.loc (thr d L) ↦{fullShare} w)
    ∗ ∃ fo : S26x512.Idx → Elt F .f32, ⌜∀ j : S26x512.Idx, (j 0).val / 13 = h → (j 0).val % 13 * 32 + (j 1).val / 16 < n → fo j = look v w j⌝
      ∗ ((sO).view.loc (thr d L) ↦[half h]{fullShare} fo))

/-- A chunk at trip `t` takes the invariant from `t` to `t + 1`. -/
theorem chunk_inv (h t : ℕ) (ht : t < 416) (off : Fin 2 → ℕ) (inb : ∀ a, off a + S1x16.size a ≤ S26x512.size a) (e : off = ![13 * h + t / 32, t % 32 * 16])
    (off' : Fin 2 → ℕ) (inb' : ∀ a, off' a + S1x16.size a ≤ S26x512.size a)
    (hoff : off' = off) (R : IVec S16 32 → Prop) (dec : ∀ x, Decidable (R x))
    (hR : ∀ x, R x → ∀ a y, ((![x] : Fin 1 → IVec S16 32) a y).toNat < S100000.size a)
    (hR' : ∀ x : IVec S16 32, (∀ y, (x y).toNat < 100000) → R x)
    (v : S100000.Idx → Elt F .f32) (w : S26x512.Idx → BitVec 32) (hw : ∀ j, (w j).toNat < 100000) (acc : Unit) :
    inv d L h v w t acc ⊢ wp frame (wpE (defs₀ (F := F)) 𝒱₀ (thr d L) none) Set.univ (chunk (F := F) L off inb off' inb' R dec hR >>= fun _ => pure ())
        (inv d L h v w (t + 1)) := by
  rw [wp_bind]
  unfold inv
  iintro ⟨Ht, Hi, %fo, %hfo, Ho⟩
  have hS : (Rect.unit (s := S26x512) off S1x16.size inb).set ⊆ half h := by
    intro i hi
    obtain ⟨_, _⟩ := (mem_chunk h t off inb e i).mp hi
    simp only [half, Finset.mem_filter, Finset.mem_univ, true_and]
    omega
  iapply (wp_wand_r frame)
  isplitl [Ht Hi Ho]
  · iapply (chunk_wp d L off inb off' inb' hoff R dec hR hR' v w hw fo (half h) hS)
    isplitl [Ht]; · iexact Ht
    isplitl [Hi]; · iexact Hi
    iexact Ho
  iintro %_ ⟨Ht, Hi, Ho⟩
  rw [Prog.pure_eq_ret, wp_ret]; imodintro
  isplitl [Ht]; · iexact Ht
  isplitl [Hi]; · iexact Hi
  iexists _
  isplitr
  swap; · iexact Ho
  ipureintro
  intro j hj hlt
  have hj1 : (j 1).val < 512 := (j 1).isLt
  simp only [mem_chunk h t off inb e j]
  split_ifs with hc
  · rfl
  · refine hfo j hj ?_
    by_contra hn
    refine hc ⟨?_, ?_⟩ <;> omega

abbrev t1body := k1_t1_body (F := F) L (vV) (Memref.isWhole_whole _) (gV) (Memref.isWhole_whole _) (yV) (Memref.isWhole_whole _)
  (sT) (Memref.isWhole_whole _) (sI) (Memref.isWhole_whole _) (sO) (Memref.isWhole_whole _) cc1_scratch3 cc1_scratch4 cc1_scratch5 cc1_scoped0
abbrev t2body := k1_t2_body (F := F) L (vV) (Memref.isWhole_whole _) (gV) (Memref.isWhole_whole _) (yV) (Memref.isWhole_whole _)
  (sT) (Memref.isWhole_whole _) (sI) (Memref.isWhole_whole _) (sO) (Memref.isWhole_whole _) cc1_scratch3 cc1_scratch4 cc1_scratch5 cc1_scoped0

/-- The first loop's trip; -/
theorem trip1 (v : S100000.Idx → Elt F .f32) (w : S26x512.Idx → BitVec 32) (hw : ∀ j, (w j).toNat < 100000) (t : Fin k1_t1_loop.trips) (acc : Unit) :
    inv d L 0 v w t.val acc ⊢ wp frame (wpE (defs₀ (F := F)) 𝒱₀ (thr d L) none) Set.univ (t1body (F := F) L t acc) (inv d L 0 v w (t.val + 1)) := by
  unfold t1body k1_t1_body
  rw [k1_part1_eq_skeleton]
  have ht : t.val < 416 := trips1 ▸ t.isLt
  refine (chunk_inv d L 0 t.val ht (k1_off2 t) (k1_off2_inb t) ?_ (k1_off3 t) (k1_off3_inb t) ?_ k1_chk1 k1_chk1.dec k1_idx1_inb ?_ v w hw acc)
  · rw [off2_eq]; simp
  · rw [off2_eq, off3_eq]
  · intro x hx a y
    obtain rfl : a = 0 := Subsingleton.elim _ _
    exact hx y

/-- the second's. -/
theorem trip2 (v : S100000.Idx → Elt F .f32) (w : S26x512.Idx → BitVec 32) (hw : ∀ j, (w j).toNat < 100000) (t : Fin k1_t2_loop.trips) (acc : Unit) :
    inv d L 1 v w t.val acc ⊢ wp frame (wpE (defs₀ (F := F)) 𝒱₀ (thr d L) none) Set.univ (t2body (F := F) L t acc) (inv d L 1 v w (t.val + 1)) := by
  unfold t2body k1_t2_body
  rw [k1_part2_eq_skeleton]
  have ht : t.val < 416 := trips2 ▸ t.isLt
  refine (chunk_inv d L 1 t.val ht (k1_off5 t) (k1_off5_inb t) ?_ (k1_off6 t) (k1_off6_inb t) ?_ k1_chk2 k1_chk2.dec k1_idx2_inb ?_ v w hw acc)
  · rw [off5_eq]
  · rw [off5_eq, off6_eq]
  · intro x hx a y
    obtain rfl : a = 0 := Subsingleton.elim _ _
    exact hx y

/-! ## The tile's body -/

/-- The tile's four semaphores: the table's copy in, the row numbers' copy in, the first half's copy out, the second's. -/
abbrev cVcell : GSem nD τ sig := (thr d L, .dma cc1_scratch3.sem)
abbrev cIcell : GSem nD τ sig := (thr d L, .dma cc1_scratch4.sem)
abbrev cOcell : GSem nD τ sig := (thr d L, .dma cc1_scratch5.sem)
abbrev cRcell : GSem nD τ sig := (thr d L, .dma cc1_scoped0.sem)

omit [FloatOps F] in
theorem ownSems0_V :
    (ownSems0 (thr d L) : sProp 𝕄)
      = iprop(semVal (cVcell d L) 0 ∗ semVal (cIcell d L) 0 ∗ semVal (cOcell d L) 0 ∗ semVal (cRcell d L) 0
          ∗ bigSep (((((ownCells (thr d L)).erase (cVcell d L)).erase (cIcell d L)).erase (cOcell d L)).erase (cRcell d L)) fun g => semVal g 0) := by
  have h3 : (SemLoc.dma cc1_scratch3.sem : SemLoc sig).isScoped .scVector = true := by decide
  have h4 : (SemLoc.dma cc1_scratch4.sem : SemLoc sig).isScoped .scVector = true := by decide
  have h5 : (SemLoc.dma cc1_scratch5.sem : SemLoc sig).isScoped .scVector = true := by decide
  have h6 : (SemLoc.dma cc1_scoped0.sem : SemLoc sig).isScoped .scVector = true := by decide
  have n43 : cIcell d L ≠ cVcell d L := by simp [cIcell, cVcell]; decide
  have n53 : cOcell d L ≠ cVcell d L := by simp [cOcell, cVcell]; decide
  have n54 : cOcell d L ≠ cIcell d L := by simp [cOcell, cIcell]; decide
  have n63 : cRcell d L ≠ cVcell d L := by simp [cRcell, cVcell]; decide
  have n64 : cRcell d L ≠ cIcell d L := by simp [cRcell, cIcell]; decide
  have n65 : cRcell d L ≠ cOcell d L := by simp [cRcell, cOcell]; decide
  unfold SparseCore.Cfg.ownSems0
  rw [SparseCore.bigSep_erase' ((mem_ownCells (g := cVcell d L)).mpr ⟨rfl, h3⟩),
    SparseCore.bigSep_erase' (Finset.mem_erase.mpr ⟨n43, (mem_ownCells (g := cIcell d L)).mpr ⟨rfl, h4⟩⟩),
    SparseCore.bigSep_erase' (Finset.mem_erase.mpr ⟨n54, Finset.mem_erase.mpr ⟨n53, (mem_ownCells (g := cOcell d L)).mpr ⟨rfl, h5⟩⟩⟩),
    SparseCore.bigSep_erase' (Finset.mem_erase.mpr ⟨n65, Finset.mem_erase.mpr ⟨n64, Finset.mem_erase.mpr ⟨n63, (mem_ownCells (g := cRcell d L)).mpr ⟨rfl, h6⟩⟩⟩⟩)]

omit [FloatOps F] in
/-- The tile's own buffers are its three scratch buffers, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have n10 : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  have n20 : (Proc.scVector (cV L) (jV L)).devRef cc1_scratch2 ≠ (Proc.scVector (cV L) (jV L)).devRef cc1_scratch0 :=
    fun e => absurd (Proc.devRef_injective _ e) (show (cc1_scratch2 : Ref sig .scVector) ≠ cc1_scratch0 by decide)
  have n21 : (Proc.scVector (cV L) (jV L)).devRef cc1_scratch2 ≠ (Proc.scVector (cV L) (jV L)).devRef cc1_scratch1 :=
    fun e => absurd (Proc.devRef_injective _ e) (show (cc1_scratch2 : Ref sig .scVector) ≠ cc1_scratch1 by decide)
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨n10,
    SparseCore.Cfg.mem_ownRefs_of_owner (p := Proc.scVector (cV L) (jV L)) (b := (Proc.scVector (cV L) (jV L)).devRef cc1_scratch1) rfl⟩),
    SparseCore.bigSep_erase' (Finset.mem_erase.mpr ⟨n21, Finset.mem_erase.mpr ⟨n20,
    SparseCore.Cfg.mem_ownRefs_of_owner (p := Proc.scVector (cV L) (jV L)) (b := (Proc.scVector (cV L) (jV L)).devRef cc1_scratch2) rfl⟩⟩)]

omit [FloatOps F] in
theorem pts_v (q : PosShare TreeShare) (f : Buf (Elt F) (vLoc d)) :
    ((vV).view.loc (thr d L) ↦{q} f : sProp 𝕄) = vLoc d ↦{q} f := rfl
omit [FloatOps F] in
theorem pts_g (q : PosShare TreeShare) (f : Buf (Elt F) (gLoc d)) :
    ((gV).view.loc (thr d L) ↦{q} f : sProp 𝕄) = gLoc d ↦{q} f := rfl
omit [FloatOps F] in
theorem pts_y0 (f : Buf (Elt F) (yLoc d)) :
    ((yK0 L).view.loc (thr d L) ↦[(yK0 L).view.set]{fullShare} f : sProp 𝕄) = yLoc d ↦[blk 0 (cL L) (jL L)]{fullShare} f := by rw [set_yK0]
omit [FloatOps F] in
theorem pts_y1 (f : Buf (Elt F) (yLoc d)) :
    ((yK1 L).view.loc (thr d L) ↦[(yK1 L).view.set]{fullShare} f : sProp 𝕄) = yLoc d ↦[blk 1 (cL L) (jL L)]{fullShare} f := by rw [set_yK1]
omit [FloatOps F] in
theorem half_disj : Disjoint (half 0) (half 1) := by
  rw [Finset.disjoint_left]; intro j h0 h1
  simp only [half, Finset.mem_filter, Finset.mem_univ, true_and] at h0 h1; omega
omit [FloatOps F] in
theorem half_cover : half 0 ∪ half 1 = Finset.univ := by
  ext j
  have h0 : (j 0).val < 26 := (j 0).isLt
  simp only [half, Finset.mem_union, Finset.mem_filter, Finset.mem_univ, true_and, iff_true]; omega
omit [FloatOps F] in
/-- The output scratch is its two halves. -/
theorem pts_o (f : Buf (Elt F) ((thr d L).loc cc1_scratch2)) :
    ((thr d L).loc cc1_scratch2 ↦{fullShare} f : sProp 𝕄) = iprop(((sO).view.loc (thr d L) ↦[half 0]{fullShare} f) ∗ ((sO).view.loc (thr d L) ↦[half 1]{fullShare} f)) := by
  have e := pointsTo_union (ℓ := (thr d L).loc cc1_scratch2) (Ix := HIx 1) (Name := ℕ) (U := UU) (Lvl := ℕ) (q := fullShare) (f := f) half_disj
  rw [half_cover] at e
  exact BI.equiv_iff.mp ⟨e.1, e.2⟩
omit [FloatOps F] in
theorem pts_o0 (f : Buf (Elt F) ((thr d L).loc cc1_scratch2)) :
    ((oK0).view.loc (thr d L) ↦[(oK0).view.set]{fullShare} f : sProp 𝕄) = ((sO).view.loc (thr d L) ↦[half 0]{fullShare} f) := by
  rw [set_half 0 _ inb_S26x512_S13x512_0_0 rfl]
omit [FloatOps F] in
theorem pts_o1 (f : Buf (Elt F) ((thr d L).loc cc1_scratch2)) :
    ((oK1).view.loc (thr d L) ↦[(oK1).view.set]{fullShare} f : sProp 𝕄) = ((sO).view.loc (thr d L) ↦[half 1]{fullShare} f) := by
  rw [set_half 1 _ inb_S26x512_S13x512_13_0 rfl]

set_option maxHeartbeats 4000000 in
/-- The tile's run: from read shares of the table `v` and of the row numbers `g` (all below 100000) and its two blocks of
    the result, it leaves `yOf v g` on its two blocks. -/
theorem tile_body (hF : (K (F := F)).Facts) (v : Buf (Elt F) (vLoc d)) (g : Buf (Elt F) (gLoc d)) (hg : ∀ i : S8x26x2048.Idx, (g i : BitVec 32).toNat < 100000)
    (q q' : PosShare TreeShare) (fy : Buf (Elt F) (yLoc d))
    (O : CellTallies nD τ sig (HIx 1)) (W : Waits sig (HIx 1)) (hO : ∀ g, O g none = 0) :
    (iprop(levAts (K (F := F)).L (K (F := F)).lev ∗ emp
        ∗ ((vLoc d ↦{q} v) ∗ (gLoc d ↦{q'} g) ∗ (yLoc d ↦[blk 0 (cL L) (jL L)]{fullShare} fy) ∗ (yLoc d ↦[blk 1 (cL L) (jL L)]{fullShare} fy))
        ∗ scopedBufs (thr d L) ∗ scopedSems0 (thr d L) ∗ owes (thr d L) O W) : sProp 𝕄)
      ⊢ wp frame (wpE (defs₀ (F := F)) 𝒱₀ (thr d L) none) Set.univ
          (cc1__sc_gather_body L (vV) (Memref.isWhole_whole _) (gV) (Memref.isWhole_whole _) (yV) (Memref.isWhole_whole _)
            (sT) (Memref.isWhole_whole _) (sI) (Memref.isWhole_whole _) (sO) (Memref.isWhole_whole _) cc1_scratch3 cc1_scratch4 cc1_scratch5 cc1_scoped0)
          fun _ => iprop(((yLoc d ↦[blk 0 (cL L) (jL L)]{fullShare} yOf v g) ∗ (yLoc d ↦[blk 1 (cL L) (jL L)]{fullShare} yOf v g))
            ∗ scopedBufs (thr d L) ∗ scopedSems0 (thr d L)
            ∗ ∃ W', ⌜∀ p ∈ W', p ∈ W ∨ p.2 = none⌝ ∗ owes (thr d L) O W') := by
  simp (proj := false) (zeta := false) only [cc1__sc_gather_body_eq_skeleton]; unfold cc1__sc_gather_body_skel
  simp (proj := false) (zeta := false) only [k1_part3_eq_skeleton, k1_part4_eq_skeleton]; unfold k1_part3_skel k1_part4_skel
  rw [(K (F := F)).scopedBufs_V hF d (cV L) (jV L), SparseCore.Cfg.scopedSems0_V (Val := Elt F) d (cV L) (jV L), ownSems0_V, ownBufs_V]
  iintro ⟨#Hlv, -, ⟨Hv, Hg, Hy0, Hy1⟩, ⟨⟨%ft, Ht⟩, ⟨%fi, Hi⟩, ⟨%fo, Ho⟩, Hbufs⟩, ⟨HsV, HsI, HsO, HsR, Hsems⟩, HO⟩
  ihave Hmw := (show levAts (K (F := F)).L (K (F := F)).lev ⊢ Transfers.MayWaits (thr d L) (default : HIx 1) O from
    (K (F := F)).mayWaits_none (thr := thr d L) hO) $$ Hlv
  ihave Hv' := (Entails.of_eq (pts_v (F := F) d L _ _).symm) $$ Hv
  ihave Hg' := (Entails.of_eq (pts_g (F := F) d L _ _).symm) $$ Hg
  ihave Hy0' := (Entails.of_eq (pts_y0 (F := F) d L _).symm) $$ Hy0
  ihave Hy1' := (Entails.of_eq (pts_y1 (F := F) d L _).symm) $$ Hy1
  ihave Ht' := (show ((thr d L).loc cc1_scratch0 ↦{fullShare} ft : sProp 𝕄) ⊢ ((sT).view.loc (thr d L) ↦{fullShare} ft) from .rfl) $$ Ht
  ihave Hi' := (show ((thr d L).loc cc1_scratch1 ↦{fullShare} fi : sProp 𝕄) ⊢ ((sI).view.loc (thr d L) ↦{fullShare} fi) from .rfl) $$ Hi
  sl_exec
  ihave HtT := (Entails.of_eq (show ((sT).view.loc (thr d L) ↦{fullShare} View.write (Elt F) (sT).view ft (tile_body.sl.dma0 d v) Finset.univ : sProp 𝕄)
      = ((sT).view.loc (thr d L) ↦{fullShare} v) from by
    rw [show View.write (Elt F) (sT).view ft (tile_body.sl.dma0 d v) Finset.univ = v from
      (View.write_whole_univ _ _ _).trans (View.read_whole _ _)])) $$ Ht'
  ihave HiT := (Entails.of_eq (show ((sI).view.loc (thr d L) ↦{fullShare} View.write (Elt F) (sI).view fi (tile_body.sl.dma0_1 d L g) Finset.univ : sProp 𝕄)
      = ((sI).view.loc (thr d L) ↦{fullShare} rows L g) from by
    rw [show View.write (Elt F) (sI).view fi (tile_body.sl.dma0_1 d L g) Finset.univ = rows L g from
      (View.write_whole_univ _ _ _).trans (funext fun j => (View.read_apply _ _).trans (cast_eq _ _))])) $$ Hi'
  ihave HoT := (Entails.of_eq (pts_o (F := F) d L fo)) $$ Ho
  icases HoT with ⟨Ho0, Ho1⟩
  have hw : ∀ j, (rows L g j).toNat < 100000 := fun j => hg _
  simp (proj := false) (zeta := false) only [bind_assoc]
  sl_for (inv d L 0 v (rows L g)) $$ [HtT HiT Ho0]
  case region => intro k _; exact trip1 d L v (rows L g) hw k _
  · unfold inv
    isplitl [HtT]
    · iexact HtT
    isplitl [HiT]
    · iexact HiT
    iexists fo
    isplitr
    · ipureintro; intro j _ hlt; omega
    · iexact Ho0
  iintro %_ HI
  unfold inv
  icases HI with ⟨HtT, HiT, ⟨%fo0, %hfo0, Ho0⟩⟩
  ihave Ho0' := (Entails.of_eq (pts_o0 (F := F) d L fo0).symm) $$ Ho0
  sl_exec
  simp (proj := false) (zeta := false) only [bind_assoc]
  sl_for (inv d L 1 v (rows L g)) $$ [HtT HiT Ho1]
  case region => intro k _; exact trip2 d L v (rows L g) hw k _
  · unfold inv
    isplitl [HtT]
    · iexact HtT
    isplitl [HiT]
    · iexact HiT
    iexists fo
    isplitr
    · ipureintro; intro j _ hlt; omega
    · iexact Ho1
  iintro %_ HI
  unfold inv
  icases HI with ⟨HtT, HiT, ⟨%fo1, %hfo1, Ho1⟩⟩
  ihave Ho1' := (Entails.of_eq (pts_o1 (F := F) d L fo1).symm) $$ Ho1
  sl_exec
  sl_step
  have hB : ∀ j : S26x512.Idx, (j 0).val % 13 * 32 + (j 1).val / 16 < 416 := fun j => by
    have h0 : (j 0).val < 26 := (j 0).isLt
    have h1 : (j 1).val < 512 := (j 1).isLt
    omega
  have ho0 : ∀ j : S26x512.Idx, (j 0).val / 13 = 0 → fo0 j = look v (rows L g) j := fun j hj => hfo0 j hj (by
    rw [show Scf.trips k1_t1_loop.lb k1_t1_loop.ub k1_t1_loop.st = 416 from trips1]; exact hB j)
  have ho1 : ∀ j : S26x512.Idx, (j 0).val / 13 = 1 → fo1 j = look v (rows L g) j := fun j hj => hfo1 j hj (by
    rw [show Scf.trips k1_t2_loop.lb k1_t2_loop.ub k1_t2_loop.st = 416 from trips2]; exact hB j)
  have e0 : ∀ i ∈ (yK0 L).view.set, (yK0 L).view.writes (Elt F) fy [⟨Rect.whole S13x512, tile_body.sl.dma0_2 fo0⟩] i = yOf v g i := by
    rw [← View.write_univ_eq_writes_whole (yK0 L).view fy [] (tile_body.sl.dma0_2 fo0)]
    exact out_val L v g 0 _ (k1_off4_inb L) (k1_off4_eq L) _ inb_S26x512_S13x512_0_0 rfl fy fo0 ho0
  have e1 : ∀ i ∈ (yK1 L).view.set, (yK1 L).view.writes (Elt F) fy [⟨Rect.whole S13x512, tile_body.sl.dma0_3 fo1⟩] i = yOf v g i := by
    rw [← View.write_univ_eq_writes_whole (yK1 L).view fy [] (tile_body.sl.dma0_3 fo1)]
    exact out_val L v g 1 _ (k1_off7_inb L) (k1_off7_eq L) _ inb_S26x512_S13x512_13_0 rfl fy fo1 ho1
  ihave HY0 := (Entails.of_eq ((pointsTo_congr (Ix := HIx 1) (Name := ℕ) (U := UU) (Lvl := ℕ) e0).trans (pts_y0 (F := F) d L _))) $$ Hy0'
  ihave HY1 := (Entails.of_eq ((pointsTo_congr (Ix := HIx 1) (Name := ℕ) (U := UU) (Lvl := ℕ) e1).trans (pts_y1 (F := F) d L _))) $$ Hy1'
  isplitl [HY0 HY1]
  · isplitl [HY0]
    · iexact HY0
    · iexact HY1
  isplitl [HtT HiT Ho0' Ho1' Hbufs]
  · isplitl [HtT]
    · iexists v; iexact HtT
    isplitl [HiT]
    · iexists (rows L g); iexact HiT
    isplitl [Ho0' Ho1']
    · ihave Ho0 := (Entails.of_eq (pts_o0 (F := F) d L fo0)) $$ Ho0'
      ihave Ho1 := (Entails.of_eq (pts_o1 (F := F) d L fo1)) $$ Ho1'
      ihave Ho := (pointsTo_join (ℓ := (sO).view.loc (thr d L)) (Ix := HIx 1) (Name := ℕ) (U := UU) (Lvl := ℕ) (q := fullShare) (f := fo0) (g := fo1) half_disj) $$ [Ho0 Ho1]
      · isplitl [Ho0]
        · iexact Ho0
        · iexact Ho1
      iexists _
      rw [← half_cover]
      iexact Ho
    · iexact Hbufs
  isplitl [HsV HsI HsO HsR Hsems]
  · isplitl [HsV]
    · iexact HsV
    isplitl [HsI]
    · iexact HsI
    isplitl [HsO]
    · iexact HsO
    isplitl [HsR]
    · iexact HsR
    · iexact Hsems
  iexists _
  isplitr
  rotate_left
  · iexact HO
  · ipureintro; intro p hp
    simp only [Finset.mem_insert] at hp
    rcases hp with rfl | rfl | rfl | rfl | hp
    · exact .inr rfl
    · exact .inr rfl
    · exact .inr rfl
    · exact .inr rfl
    · exact .inl hp

end Cert.Proof.Sc
-- ==== Proof.Tasks.lean ====
/-
  The SparseCore call as the launch theorem takes it: what each tile is handed and hands back, the tiles' obligation, and
  how the call's operands are dealt to the 32 tiles and the result gathered from them.
-/
module

public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "vV" => (Memref.whole Cert.KernelIdeal.main_v2_0_scv : Memref Cert.KernelIdeal.sig Kind.scVector Space.hbm Cert.KernelIdeal.S100000 EltTy.f32)
local notation "gV" => (Memref.whole Cert.KernelIdeal.main_v3_scv : Memref Cert.KernelIdeal.sig Kind.scVector Space.hbm Cert.KernelIdeal.S8x26x2048 EltTy.i32)
local notation "yV" => (Memref.whole Cert.KernelIdeal.main_v4_scv : Memref Cert.KernelIdeal.sig Kind.scVector Space.hbm Cert.KernelIdeal.S26x16384 EltTy.f32)
local notation "sT" => (Memref.whole Cert.KernelIdeal.cc1_scratch0 : Memref Cert.KernelIdeal.sig Kind.scVector Space.vmem Cert.KernelIdeal.S100000 EltTy.f32)
local notation "sI" => (Memref.whole Cert.KernelIdeal.cc1_scratch1 : Memref Cert.KernelIdeal.sig Kind.scVector Space.vmem Cert.KernelIdeal.S26x512 EltTy.i32)
local notation "sO" => (Memref.whole Cert.KernelIdeal.cc1_scratch2 : Memref Cert.KernelIdeal.sig Kind.scVector Space.vmem Cert.KernelIdeal.S26x512 EltTy.f32)

/-! ## The payloads -/

variable (OK : Dev nD → (S100000.Idx → Elt F .f32) → Prop) (G : Dev nD → S8x26x2048.Idx → BitVec 32)

/-- The share of a table read by every tile that tile `(c, s)` gets. -/
def tq (c : Fin 2) (s : Fin 16) : PosShare TreeShare := Transfers.dealOf (Transfers.dealOf fullShare Finset.univ c) Finset.univ s

/-- What tile `(c, s)` is handed: its share of a table that satisfies `OK`, its share of the row numbers, its two blocks of the result. -/
def goAt (d : Dev nD) (c : Fin 2) (s : Fin 16) : sProp 𝕄 :=
  iprop(∃ v : Buf (Elt F) (vLoc d), ∃ fy : Buf (Elt F) (yLoc d), ⌜OK d v⌝ ∗ (vLoc d ↦{tq c s} v) ∗ (gLoc d ↦{tq c s} G d)
    ∗ (yLoc d ↦[blk 0 c s]{fullShare} fy) ∗ (yLoc d ↦[blk 1 c s]{fullShare} fy))

/-- What it hands back: its two blocks of the result, gathered from such a table. -/
def tdAt (d : Dev nD) (c : Fin 2) (s : Fin 16) : sProp 𝕄 :=
  iprop(∃ v : Buf (Elt F) (vLoc d), ⌜OK d v⌝ ∗ (yLoc d ↦[blk 0 c s]{fullShare} yOf v (G d)) ∗ (yLoc d ↦[blk 1 c s]{fullShare} yOf v (G d)))

instance goAt_storable (d : Dev nD) (c : Fin 2) (s : Fin 16) : BI.Storable (upEmb : UEmb _ 𝕄) (goAt OK G d c s) := by unfold goAt; infer_instance
instance tdAt_storable (d : Dev nD) (c : Fin 2) (s : Fin 16) : BI.Storable (upEmb : UEmb _ 𝕄) (tdAt OK G d c s) := by unfold tdAt; infer_instance

/-- What a whole SparseCore takes, and hands back. -/
def stAt (d : Dev nD) (c : Fin 2) : sProp 𝕄 := bigSep Finset.univ fun s : Fin 16 => goAt OK G d c s
def dnAt (d : Dev nD) (c : Fin 2) : sProp 𝕄 := bigSep Finset.univ fun s : Fin 16 => tdAt OK G d c s

instance stAt_storable (d : Dev nD) (c : Fin 2) : BI.Storable (upEmb : UEmb _ 𝕄) (stAt OK G d c) := by unfold stAt; infer_instance
instance dnAt_storable (d : Dev nD) (c : Fin 2) : BI.Storable (upEmb : UEmb _ 𝕄) (dnAt OK G d c) := by unfold dnAt; infer_instance

def P : (K (F := F)).Pay (nD := nD) (Val := Elt F) (Name := ℕ) (U := UU) where
  st := fun q d c => match q with | 0 => stAt OK G d (Fin.cast nCore_zero c)
  dn := fun q d c => match q with | 0 => dnAt OK G d (Fin.cast nCore_zero c)
  go := fun q d c i => match q with | 0 => goAt OK G d (Fin.cast nCore_zero c) (Fin.cast nSub_zero i)
  td := fun q d c i => match q with | 0 => tdAt OK G d (Fin.cast nCore_zero c) (Fin.cast nSub_zero i)
  x := fun _ _ => iprop(emp)

instance P_storable : (P OK G).IsStorable where
  st q d c := match q with | 0 => stAt_storable OK G d (Fin.cast nCore_zero c)
  dn q d c := match q with | 0 => dnAt_storable OK G d (Fin.cast nCore_zero c)
  go q d c i := match q with | 0 => goAt_storable OK G d (Fin.cast nCore_zero c) (Fin.cast nSub_zero i)
  td q d c i := match q with | 0 => tdAt_storable OK G d (Fin.cast nCore_zero c) (Fin.cast nSub_zero i)

/-! ## The tiles' obligation -/

section Obl
variable [FloatOps F]

/-- The grid coordinates of a tile. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s)
          (vV) (Memref.isWhole_whole _) (gV) (Memref.isWhole_whole _) (yV) (Memref.isWhole_whole _)
          (sT) (Memref.isWhole_whole _) (sI) (Memref.isWhole_whole _) (sO) (Memref.isWhole_whole _)
          cc1_scratch3 cc1_scratch4 cc1_scratch5 cc1_scoped0) ⟨⟩ c s := rfl

/-- A tile from its payload to its payload. -/
theorem tile_task (hF : (K (F := F)).Facts) (hG : ∀ d i, (G d i).toNat < 100000) (d : Dev nD) (L : grid1.Coords) (q : Fin 1)
    (O : CellTallies nD τ sig (HIx 1)) (W : Waits sig (HIx 1)) (hO : ∀ g, O g none = 0) :
    iprop(levAts (K (F := F)).L (K (F := F)).lev ∗ emp ∗ goAt OK G d (cL L) (jL L) ∗ scopedBufs (thr d L) ∗ scopedSems0 (thr d L) ∗ owes (thr d L) O W)
      ⊢ wp frame (wpE (defs₀ (F := F)) 𝒱₀ (thr d L) none) Set.univ
          (cc1__sc_gather_body L (vV) (Memref.isWhole_whole _) (gV) (Memref.isWhole_whole _) (yV) (Memref.isWhole_whole _)
            (sT) (Memref.isWhole_whole _) (sI) (Memref.isWhole_whole _) (sO) (Memref.isWhole_whole _) cc1_scratch3 cc1_scratch4 cc1_scratch5 cc1_scoped0)
          fun _ => iprop(tdAt OK G d (cL L) (jL L) ∗ scopedBufs (thr d L) ∗ scopedSems0 (thr d L)
            ∗ ∃ W', ⌜∀ p ∈ W', p ∈ W ∨ p.2 = none ∨ p.2 = some q⌝ ∗ owes (thr d L) O W') := by
  unfold goAt
  iintro ⟨Hlv, He, ⟨%v, %fy, %hv, Hv, Hg, Hy0, Hy1⟩, Hb, Hs, HO⟩
  iapply (wp_wand_r frame)
  isplitl [Hlv He Hv Hg Hy0 Hy1 Hb Hs HO]
  · iapply (tile_body d L hF v (G d) (hG d) (tq (cL L) (jL L)) (tq (cL L) (jL L)) fy O W hO)
    isplitl [Hlv]; · iexact Hlv
    isplitl [He]; · iexact He
    isplitl [Hv Hg Hy0 Hy1]
    · isplitl [Hv]; · iexact Hv
      isplitl [Hg]; · iexact Hg
      isplitl [Hy0] <;> iassumption
    isplitl [Hb]; · iexact Hb
    isplitl [Hs] <;> iassumption
  iintro %_ ⟨⟨Hy0, Hy1⟩, Hb, Hs, %W', %hW', HO⟩
  isplitl [Hy0 Hy1]
  · unfold tdAt; iexists v
    isplitr; · ipureintro; exact hv
    isplitl [Hy0] <;> iassumption
  isplitl [Hb]; · iexact Hb
  isplitl [Hs]; · iexact Hs
  iexists W'; isplitr
  · ipureintro; exact fun p hp => (hW' p hp).imp_right Or.inl
  · iexact HO

set_option maxRecDepth 16384 in
theorem tileObl (hF : (K (F := F)).Facts) (hG : ∀ d i, (G d i).toNat < 100000) : (K (F := F)).TileObl (D (F := F)) 𝒱 (P OK G) v₀ 0 := by
  intro d c i O W hO _ _
  simp only [show (P OK G).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task OK G hF hG d (coordsV ⟨_, hci.1⟩ ⟨_, hci.2⟩) 0 O W hO

theorem vecSplit : (K (F := F)).VecSplit' (P OK G) 0 := by
  intro d c
  show stAt OK G d (Fin.cast nCore_zero c) ⊢ |={Set.univ}=> iprop(stAt OK G d (Fin.cast nCore_zero c)
      ∗ (dnAt OK G d (Fin.cast nCore_zero c) -∗ dnAt OK G d (Fin.cast nCore_zero c)))
  iintro H; imodintro
  isplitl [H]; · iexact H
  iintro H; iexact H

end Obl

/-! ## The operands dealt, the result gathered -/

/-- A bigger index set than a pair of them: half, SparseCore, subcore. -/
abbrev T3 : Type := Fin 2 × Fin 2 × Fin 16
abbrev blk3 (t : T3) : Finset S26x16384.Idx := blk t.1.val t.2.1 t.2.2

theorem blk3_disjoint : ∀ t ∈ (Finset.univ : Finset T3), ∀ t' ∈ (Finset.univ : Finset T3), t ≠ t' → Disjoint (blk3 t) (blk3 t') := by
  rintro ⟨h, c, s⟩ - ⟨h', c', s'⟩ - hne
  rw [Finset.disjoint_left]; intro i hi hi'
  simp only [blk3, blk, Finset.mem_filter, Finset.mem_univ, true_and] at hi hi'
  refine hne ?_
  have e1 : h = h' := Fin.ext (by omega)
  have hc : c = c' := Fin.ext (by have := c.isLt; have := c'.isLt; omega)
  have hs : s = s' := Fin.ext (by have := c.isLt; have := c'.isLt; omega)
  rw [e1, hc, hs]

theorem blk3_cover : (Finset.univ : Finset T3).biUnion blk3 = Finset.univ := by
  ext i
  have h0 : (i 0).val < 26 := (i 0).isLt
  have h1 : (i 1).val < 16384 := (i 1).isLt
  simp only [Finset.mem_biUnion, Finset.mem_univ, true_and, iff_true]
  refine ⟨(⟨(i 0).val / 13, by omega⟩, ⟨(i 1).val / 512 % 2, by omega⟩, ⟨(i 1).val / 1024, by omega⟩), ?_⟩
  simp only [blk3, blk, Finset.mem_filter, Finset.mem_univ, true_and]
  omega

theorem pts_deal {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [Transfers.pointsTo_deal (Finset.univ : Finset (Fin 2)) ⟨0, Finset.mem_univ _⟩ fullShare]
  refine bigSep_congr fun c _ => ?_
  rw [Transfers.pointsTo_deal (Finset.univ : Finset (Fin 16)) ⟨0, Finset.mem_univ _⟩ (Transfers.dealOf fullShare Finset.univ c)]
  rfl

theorem pts_blocks (d : Dev nD) (f : Buf (Elt F) (yLoc d)) :
    (yLoc d ↦{fullShare} f : sProp 𝕄) = bigSep Finset.univ fun t : T3 => yLoc d ↦[blk3 t]{fullShare} f := by
  rw [← pointsTo_biUnion Finset.univ (ℓ := yLoc d) blk3 blk3_disjoint, blk3_cover]; try rfl

/-- Two halves, for every SparseCore and subcore. -/
theorem bigSep_T3 (Φ : ℕ → Fin 2 × Fin 16 → sProp 𝕄) :
    (bigSep Finset.univ fun t : T3 => Φ t.1.val t.2) = bigSep Finset.univ fun cs : Fin 2 × Fin 16 => iprop(Φ 0 cs ∗ Φ 1 cs) := by
  rw [bigSep_univ_prod, bigSep_univ_two, bigSep_sep']
  rfl

/-- One tile's part of the operands. -/
theorem goAt_intro (d : Dev nD) (v : Buf (Elt F) (vLoc d)) (hv : OK d v) (fy : Buf (Elt F) (yLoc d)) (c : Fin 2) (s : Fin 16) :
    iprop((vLoc d ↦{tq c s} v) ∗ (gLoc d ↦{tq c s} G d) ∗ (yLoc d ↦[blk 0 c s]{fullShare} fy) ∗ (yLoc d ↦[blk 1 c s]{fullShare} fy))
      ⊢ (goAt OK G d c s : sProp 𝕄) := by
  unfold goAt
  iintro ⟨Hv, Hg, Hy⟩
  iexists v; iexists fy
  isplitr; · ipureintro; exact hv
  isplitl [Hv]; · iexact Hv
  isplitl [Hg]; · iexact Hg
  iexact Hy

/-- The call's operands: a table that satisfies `OK`, the row numbers, the result at anything. -/
theorem st0_intro (d : Dev nD) (v : Buf (Elt F) (vLoc d)) (hv : OK d v) (fy : Buf (Elt F) (yLoc d)) :
    iprop((vLoc d ↦{fullShare} v) ∗ (gLoc d ↦{fullShare} G d) ∗ (yLoc d ↦{fullShare} fy))
      ⊢ (bigSep Finset.univ fun c : Fin ((K (F := F)).nCore 0) => (P OK G).st 0 d c : sProp 𝕄) := by
  show _ ⊢ (bigSep Finset.univ fun c : Fin 2 => bigSep Finset.univ fun s : Fin 16 => goAt OK G d c s : sProp 𝕄)
  rw [pts_deal (ℓ := vLoc d) v, pts_deal (ℓ := gLoc d) (G d), pts_blocks, ← bigSep_univ_prod (fun cs : Fin 2 × Fin 16 => goAt OK G d cs.1 cs.2),
    ← bigSep_univ_prod (fun cs : Fin 2 × Fin 16 => (vLoc d ↦{tq cs.1 cs.2} v : sProp 𝕄)),
    ← bigSep_univ_prod (fun cs : Fin 2 × Fin 16 => (gLoc d ↦{tq cs.1 cs.2} G d : sProp 𝕄)),
    bigSep_T3 (fun h cs => (yLoc d ↦[blk h cs.1 cs.2]{fullShare} fy : sProp 𝕄)), ← bigSep_sep', ← bigSep_sep']
  exact bigSep_mono fun cs _ => goAt_intro OK G d v hv fy cs.1 cs.2

/-- The call's result: every entry is gathered from a table that satisfies `OK`. -/
theorem dn0_elim [∀ e, Nonempty (Elt F e)] (d : Dev nD) :
    (bigSep Finset.univ fun c : Fin ((K (F := F)).nCore 0) => (P OK G).dn 0 d c)
      ⊢ (iprop(∃ y : Buf (Elt F) (yLoc d), ⌜∀ i : S26x16384.Idx, ∃ v, OK d v ∧ y i = yOf v (G d) i⌝ ∗ (yLoc d ↦{fullShare} y)) : sProp 𝕄) := by
  show (bigSep Finset.univ fun c : Fin 2 => bigSep Finset.univ fun s : Fin 16 => tdAt OK G d c s : sProp 𝕄) ⊢ _
  rw [← bigSep_univ_prod (fun cs : Fin 2 × Fin 16 => tdAt OK G d cs.1 cs.2)]
  have : Nonempty (Buf (Elt F) (vLoc d)) := ⟨fun _ => Classical.arbitrary _⟩
  unfold tdAt
  refine (bigSep_exists_pi Finset.univ (fun (cs : Fin 2 × Fin 16) (v : Buf (Elt F) (vLoc d)) => iprop(⌜OK d v⌝
    ∗ (yLoc d ↦[blk 0 cs.1 cs.2]{fullShare} yOf v (G d)) ∗ (yLoc d ↦[blk 1 cs.1 cs.2]{fullShare} yOf v (G d))))).trans ?_
  iintro ⟨%vs, H⟩
  ihave H' := (bigSep_pure_sep Finset.univ (fun cs : Fin 2 × Fin 16 => OK d (vs cs)) _) $$ H
  icases H' with ⟨%hv, H⟩
  ihave H3 := (Entails.of_eq (bigSep_T3 (fun h cs => (yLoc d ↦[blk h cs.1 cs.2]{fullShare} yOf (vs cs) (G d) : sProp 𝕄))).symm) $$ H
  ihave HJ := (pointsTo_biUnion_join (ℓ := yLoc d) (q := fullShare) (Val := Elt F) Finset.univ blk3 (fun t => yOf (vs t.2) (G d)) (yOf (vs (0, 0)) (G d)) blk3_disjoint) $$ H3
  icases HJ with ⟨%y, %hy, Hy⟩
  rw [blk3_cover]
  iexists y
  isplitr
  · ipureintro; intro i
    have hi : i ∈ (Finset.univ : Finset T3).biUnion blk3 := by rw [blk3_cover]; exact Finset.mem_univ _
    obtain ⟨t, ht, hit⟩ := Finset.mem_biUnion.mp hi
    exact ⟨vs t.2, hv t.2 (Finset.mem_univ _), hy t ht i hit⟩
  · iexact Hy

end Cert.Proof.Sc
-- ==== Proof.Main.lean ====
/-
  The program's run, for any float values: the launch's ghost state, @main on the TensorCore, and what every final memory
  holds.
-/
module

public import proofs.«01_k».proof.Proof.Host
public import proofs.«01_k».proof.Proof.Tasks
public import Idealize.ShloMosaic.Lib.Pipeline.Frame
public import Idealize.ShloMosaic.Lib.Pipeline.Regions

@[expose] public section

noncomputable section

namespace Cert.Proof.Sc

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch's ghost state -/

/-- The pipeline's rounds inside the machine's algebra. -/
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

theorem pin_inj : Function.Injective (Pipeline.cellOf (nD := nD) (τ := τ) (Pipeline.pin (pcfgs (F := F)) adm)) := cellOf_inj

/-- The element the launch starts from: the handshakes' rounds and the pipeline's. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- What of it a TensorCore keeps for its pipeline. -/
def ghost (d : Dev nD) : sProp 𝕄 :=
  iprop(Pipeline.cellsGhost (Pipeline.pin (pcfgs (F := F)) adm) EP 0 d ∗ Pipeline.toksInit (Pipeline.pin (pcfgs (F := F)) adm) EP 0 d)

section Main

variable (OK : Dev nD → (S100000.Idx → Elt F .f32) → Prop) (G : Dev nD → S8x26x2048.Idx → BitVec 32)

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P OK G).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adm) EP pin_inj) $$ HP with ⟨Hg, Ht⟩
  imodintro
  isplitl [HH]; · iexact HH
  isplitl [Hg Ht]
  · unfold ghost
    rw [bigSep_sep']
    isplitl [Hg]
    · iapply (Entails.of_eq (show (bigSep Finset.univ fun d : Dev nD => bigSep Finset.univ fun p : Fin 1 => Pipeline.cellsGhost (Pipeline.pin (pcfgs (F := F)) adm) EP p d : sProp 𝕄)
        = bigSep Finset.univ fun d : Dev nD => Pipeline.cellsGhost (Pipeline.pin (pcfgs (F := F)) adm) EP 0 d from bigSep_congr fun d _ => bigSep_univ_of_subsingleton (0 : Fin 1)))
      iexact Hg
    iapply (Entails.of_eq (show (bigSep Finset.univ fun d : Dev nD => bigSep Finset.univ fun p : Fin 1 => Pipeline.toksInit (Pipeline.pin (pcfgs (F := F)) adm) EP p d : sProp 𝕄)
        = bigSep Finset.univ fun d : Dev nD => Pipeline.toksInit (Pipeline.pin (pcfgs (F := F)) adm) EP 0 d from bigSep_congr fun d _ => bigSep_univ_of_subsingleton (0 : Fin 1)))
    iexact Ht
  rw [show (bigSep Finset.univ fun thr : Thread nD τ => bigSep Finset.univ fun q : Fin 1 => (P OK G).x q thr) = (BI.emp : sProp 𝕄) from
    (bigSep_congr fun _ _ => bigSep_univ_of_subsingleton (0 : Fin 1)).trans (bigSep_emp_const _)]
  iempintro

end Main

/-! ## @main on the TensorCore -/

variable (m : (ℓ : Loc nD τ sig) → Buf (Elt F) ℓ) (ρ : Dev nD → PrngReg)
variable (B : Dev nD → S100000.Idx → Elt F .f32 → Prop)

/-- The table of the two calls: every entry satisfies `B`. -/
def tableOK (d : Dev nD) (v : S100000.Idx → Elt F .f32) : Prop := ∀ n, B d n (v n)

/-- The result array: every entry is the one of such a table that the index array names there. -/
def Answer (d : Dev nD) (r : S16384x26x1.Idx → Elt F .f32) : Prop :=
  ∀ i, ∃ v, tableOK B d v ∧ r i = pick v ((m ((d : Thread nD τ).loc main_arg0) : S16384x26.Idx → BitVec 32) (cell i))

/-- What @main keeps to the end: its four arguments as they were, and the result. -/
def FIN (d : Dev nD) : sProp 𝕄 :=
  iprop(((d : Thread nD τ).loc main_arg0 ↦{fullShare} m ((d : Thread nD τ).loc main_arg0)) ∗ ((d : Thread nD τ).loc main_arg1 ↦{fullShare} m ((d : Thread nD τ).loc main_arg1))
    ∗ ((d : Thread nD τ).loc main_arg2 ↦{fullShare} m ((d : Thread nD τ).loc main_arg2)) ∗ ((d : Thread nD τ).loc main_arg3 ↦{fullShare} m ((d : Thread nD τ).loc main_arg3))
    ∗ ∃ r : Buf (Elt F) ((d : Thread nD τ).loc main_v6), ⌜Answer m B d r⌝ ∗ ((d : Thread nD τ).loc main_v6 ↦{fullShare} r))

/-- The last three arrays, held at a valuation. -/
def tailRefs : Finset (DevRef τ sig) := {(main_v4 : DevRef τ sig), (main_v5 : DevRef τ sig), (main_v6 : DevRef τ sig)}

theorem held_tail (d : Dev nD) (V : Valuation τ sig (Elt F)) :
    (StableHlo.held (d : Thread nD τ) tailRefs V : sProp 𝕄) = iprop(((d : Thread nD τ).loc main_v4 ↦{fullShare} V main_v4)
      ∗ ((d : Thread nD τ).loc main_v5 ↦{fullShare} V main_v5) ∗ ((d : Thread nD τ).loc main_v6 ↦{fullShare} V main_v6)) := by
  unfold StableHlo.held tailRefs
  rw [SparseCore.bigSep_insert' (by decide), SparseCore.bigSep_insert' (by decide), bigSep_singleton]

/-- @main after the SparseCore call: from that call's result to the program's. -/
theorem tail_run [∀ e, Nonempty (Elt F e)] (d : Dev nD) (y : Buf (Elt F) (yLoc d)) (f5 : Buf (Elt F) ((d : Thread nD τ).loc main_v5)) (f6 : Buf (Elt F) ((d : Thread nD τ).loc main_v6))
    (hy : ∀ i : S26x16384.Idx, ∃ v, tableOK B d v ∧ y i = yOf v (grouped m d) i) (Q : PUnit → sProp 𝕄) :
    iprop(boundary (d : Thread nD τ) ∗ ((yLoc d ↦{fullShare} y) ∗ ((d : Thread nD τ).loc main_v5 ↦{fullShare} f5) ∗ ((d : Thread nD τ).loc main_v6 ↦{fullShare} f6))
        ∗ ((boundary (d : Thread nD τ) ∗ ∃ r : Buf (Elt F) ((d : Thread nD τ).loc main_v6), ⌜Answer m B d r⌝ ∗ ((d : Thread nD τ).loc main_v6 ↦{fullShare} r)) -∗ Q ⟨⟩))
      ⊢ wp frame (wpE ((K (F := F)).defs (D (F := F))) 𝒱 (T d) none) Set.univ
          (hlo rfl backOp (fun _ => .ret PUnit.unit)) fun _ => wp frame (wpE ((K (F := F)).defs (D (F := F))) 𝒱 (T d) none) Set.univ
          (hlo rfl lastOp (fun _ => .ret PUnit.unit)) Q := by
  let V : Valuation τ sig (Elt F) := Function.update (Function.update (Function.update (atStart m d) (main_v4 : DevRef τ sig) y) (main_v5 : DevRef τ sig) f5) (main_v6 : DevRef τ sig) f6
  have h4 : V main_v4 = y := by
    unfold V
    rw [Function.update_of_ne fun e => absurd (Proc.devRef_injective _ e) (by decide), Function.update_of_ne fun e => absurd (Proc.devRef_injective _ e) (by decide), Function.update_self]
  have h5 : V main_v5 = f5 := by
    unfold V
    rw [Function.update_of_ne fun e => absurd (Proc.devRef_injective _ e) (by decide), Function.update_self]
  have h6 : V main_v6 = f6 := by
    unfold V
    rw [Function.update_self]
  have hV : (iprop((yLoc d ↦{fullShare} y) ∗ ((d : Thread nD τ).loc main_v5 ↦{fullShare} f5) ∗ ((d : Thread nD τ).loc main_v6 ↦{fullShare} f6)) : sProp 𝕄)
      = StableHlo.held (d : Thread nD τ) tailRefs V := by
    rw [held_tail, h4, h5, h6]
  have ha : Answer m B d (lastOp.result (backOp.result V) main_v6) := fun i => by
    obtain ⟨v, hv, hi⟩ := hy (turned i)
    refine ⟨v, hv, ?_⟩
    rw [result_eq, h4, hi]
    show pick v (grouped m d (grp (turned i))) = _
    unfold grouped
    rw [src_grp]
  rw [hV]
  iintro ⟨Hb, Hh, Hk⟩
  iapply (StableHlo.wp_hlo_within 𝒱 (d : Thread nD τ) none Set.univ (op := backOp) (S := tailRefs) (by rw [StableHlo.unary_bufs]; decide)) $$ [Hb Hh]
  · isplitl [Hb]; · iexact Hb
    iexact Hh
  iintro ⟨Hb, Hh⟩
  rw [wp_ret]; imodintro
  iapply (StableHlo.wp_hlo_within 𝒱 (d : Thread nD τ) none Set.univ (op := lastOp) (S := tailRefs) (by rw [StableHlo.reshape_bufs]; decide)) $$ [Hb Hh]
  · isplitl [Hb]; · iexact Hb
    iexact Hh
  iintro ⟨Hb, Hh⟩
  rw [wp_ret]; imodintro
  iapply Hk
  isplitl [Hb]; · iexact Hb
  ihave H := (Entails.of_eq (held_tail d (lastOp.result (backOp.result V)))) $$ Hh
  icases H with ⟨-, -, H6⟩
  iexists (lastOp.result (backOp.result V) main_v6)
  isplitr; · ipureintro; exact ha
  iexact H6

/-- What a TensorCore holds of the handshakes before the first call, besides what it owes. -/
def handshakes (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄) = iprop(idleOwes d ∗ handshakes d) := by
  unfold SparseCore.Cfg.tcSt idleOwes handshakes
  rfl

/-- The TensorCore call alone, in the signature its own proof is written in. -/
abbrev callProg : Prog (TpuEff nD τ sig (Elt F) (ΛP (F := F)) .tc) PUnit := .op (.customCall (Pipeline.entry 0) ()) fun x => .ret x

set_option backward.isDefEq.respectTransparency.types false in
/-- The TensorCore call in the program: from the arrays before it to the arrays as it leaves them. -/
theorem call_run [∀ e, Nonempty (Elt F e)] (hB : Fills (fun c b => atCall m c b) B) (d : Dev nD) (Q : PUnit → sProp 𝕄) :
    iprop(((boundary (d : Thread nD τ) ∗ ∃ W', ⌜Left B d (atCall m d) W'⌝ ∗ unscopedBufs d (fun b => W' b) ∗ idleOwes d) -∗ Q ⟨⟩)
        ∗ boundary (d : Thread nD τ) ∗ (unscopedBufs d (fun b => atCall m d b) ∗ idleOwes d) ∗ levAts (K (F := F)).L (K (F := F)).lev ∗ ghost d)
      ⊢ wp frame (wpE ((K (F := F)).defs (D (F := F))) 𝒱 (T d) none) Set.univ (SparseCore.liftProg callProg) Q := by
  refine BIBase.Entails.trans ?_ ((K (F := F)).wp_liftProg (D (F := F)) 𝒱 (T d) Set.univ none callProg Q)
  refine BIBase.Entails.trans ?_ (Pipeline.RDat.RegionSeg.wp _ _ _ _ pin_inj EP _ _ _ _ (reg (atCall m) B hB) d none (fun _ h => nomatch h) (fun x => .ret x) Q)
  refine sep_mono ?_ .rfl
  rw [wp_ret]
  show (iprop((boundary (d : Thread nD τ) ∗ ∃ W', ⌜Left B d (atCall m d) W'⌝ ∗ unscopedBufs d (fun b => W' b) ∗ idleOwes d) -∗ Q ⟨⟩) : sProp 𝕄)
    ⊢ iprop((boundary (d : Thread nD τ) ∗ ∃ W', ⌜Left B d (atCall m d) W'⌝ ∗ unscopedBufs d (fun b => W' b) ∗ idleOwes d) -∗ |={Set.univ}=> Q ⟨⟩)
  iintro Hk H
  imodintro
  iapply Hk
  iexact H

/-- The arrays at the start, as one set held. -/
theorem start_held (d : Dev nD) : (unscopedBufs d (fun b => m ((T d : Thread nD τ).loc b)) : sProp 𝕄) = StableHlo.held (d : Thread nD τ) (Pipeline.ucRefs τ sig) (atStart m d) :=
  Pipeline.unscopedBufs_held d (atStart m d)

/-- The arrays after the TensorCore call and the reshape: those the SparseCore call takes, the two it leaves alone, and the
    program's arguments as they were. -/
theorem grouped_pts (d : Dev nD) (W' : Valuation τ sig (Elt F)) (h : Left B d (atCall m d) W') :
    (StableHlo.held (d : Thread nD τ) (Pipeline.ucRefs τ sig) (groupOp.result W') : sProp 𝕄)
      ⊢ iprop((vLoc d ↦{fullShare} W' main_v2_0) ∗ (gLoc d ↦{fullShare} grouped m d) ∗ (yLoc d ↦{fullShare} W' main_v4)
        ∗ ((d : Thread nD τ).loc main_v5 ↦{fullShare} W' main_v5) ∗ ((d : Thread nD τ).loc main_v6 ↦{fullShare} W' main_v6)
        ∗ ((d : Thread nD τ).loc main_arg0 ↦{fullShare} m ((d : Thread nD τ).loc main_arg0)) ∗ ((d : Thread nD τ).loc main_arg1 ↦{fullShare} m ((d : Thread nD τ).loc main_arg1))
        ∗ ((d : Thread nD τ).loc main_arg2 ↦{fullShare} m ((d : Thread nD τ).loc main_arg2)) ∗ ((d : Thread nD τ).loc main_arg3 ↦{fullShare} m ((d : Thread nD τ).loc main_arg3))) := by
  have hne : ∀ b : Ref sig .tc, b ≠ main_v3 → groupOp.result W' b = W' b := fun b hb => StableHlo.reshape_result_ne (h := hb) ..
  have harg : ∀ b : Ref sig .tc, b ≠ main_v3 → b ≠ main_v2_0 → b ≠ main_v2_1 → b ≠ main_v0 → b ≠ main_v1 → groupOp.result W' b = m ((d : Thread nD τ).loc b) :=
    fun b h3 h20 h21 h0 h1 => (hne b h3).trans ((h.1 b h20 h21).trans (atCall_ne m d b h0 h1))
  rw [← Pipeline.unscopedBufs_held, unscoped_all, harg main_arg0 (by decide) (by decide) (by decide) (by decide) (by decide),
    harg main_arg1 (by decide) (by decide) (by decide) (by decide) (by decide), harg main_arg2 (by decide) (by decide) (by decide) (by decide) (by decide),
    harg main_arg3 (by decide) (by decide) (by decide) (by decide) (by decide), hne main_v2_0 (by decide), hne main_v4 (by decide), hne main_v5 (by decide),
    hne main_v6 (by decide), show groupOp.result W' main_v3 = grouped m d from grouped_eq m B d W' h]
  iintro ⟨⟨H1, H2, -, -, Hv, -⟩, H0, H3, Hg, Hy, H5, H6⟩
  isplitl [Hv]; · iexact Hv
  isplitl [Hg]; · iexact Hg
  isplitl [Hy]; · iexact Hy
  isplitl [H5]; · iexact H5
  isplitl [H6]; · iexact H6
  isplitl [H0]; · iexact H0
  isplitl [H1]; · iexact H1
  isplitl [H2]; · iexact H2
  iexact H3

set_option maxRecDepth 8192 in
/-- @main on a device's TensorCore: from the arrays at the start to its four arguments as they were and the result. -/
theorem hmain [∀ e, Nonempty (Elt F e)] (hB : Fills (fun c b => atCall m c b) B) (κ : GSem nD τ sig → ℕ) (d : Dev nD) :
    iprop((K (F := F)).ctx EH (P (tableOK B) (grouped m)) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m B d ∗ (K (F := F)).tcEnd d) := by
  unfold SparseCore.Cfg.tcRes SparseCore.Cfg.tcEnd
  rw [start_held, tcSt_zero]
  simp only [main, wp_bind, wp_pure]
  iintro ⟨#Hctx, ⟨HO, Hst⟩, ⟨Hb, Hh, Hts, -⟩, Hg⟩
  iapply (StableHlo.wp_hlo_within 𝒱 (d : Thread nD τ) none Set.univ (op := biasOp) (S := Pipeline.ucRefs τ sig)
    (Pipeline.sub_ucRefs _ (by simp))) $$ [Hb Hh]
  · isplitl [Hb]; · iexact Hb
    iexact Hh
  iintro ⟨Hb, Hh⟩
  rw [wp_ret]; imodintro
  iapply (StableHlo.wp_hlo_within 𝒱 (d : Thread nD τ) none Set.univ (op := turnOp) (S := Pipeline.ucRefs τ sig)
    (Pipeline.sub_ucRefs _ (by simp))) $$ [Hb Hh]
  · isplitl [Hb]; · iexact Hb
    iexact Hh
  iintro ⟨Hb, Hh⟩
  rw [wp_ret]; imodintro
  ihave Hu := (show (StableHlo.held (d : Thread nD τ) (Pipeline.ucRefs τ sig) (turnOp.result (biasOp.result (atStart m d))) : sProp 𝕄) ⊢ unscopedBufs d (fun b => atCall m d b)
    from Entails.of_eq (Pipeline.unscopedBufs_held d (atCall m d)).symm) $$ Hh
  ihave Hl := (SparseCore.Cfg.ctx_levAts κ) $$ Hctx
  iapply (call_run m B hB d)
  isplitr [Hb Hu HO Hl Hg]
  swap
  · isplitl [Hb]; · iexact Hb
    isplitl [Hu HO]
    · isplitl [Hu]; · iexact Hu
      iexact HO
    isplitl [Hl]; · iexact Hl
    iexact Hg
  iintro ⟨Hb, %W', %hW', Hu, HO⟩
  ihave Hh := (Entails.of_eq (Pipeline.unscopedBufs_held d W')) $$ Hu
  iapply (StableHlo.wp_hlo_within 𝒱 (d : Thread nD τ) none Set.univ (op := groupOp) (S := Pipeline.ucRefs τ sig)
    (Pipeline.sub_ucRefs _ (by simp))) $$ [Hb Hh]
  · isplitl [Hb]; · iexact Hb
    iexact Hh
  iintro ⟨Hb, Hh⟩
  rw [wp_ret]; imodintro
  ihave H := (grouped_pts m B d W' hW') $$ Hh
  icases H with ⟨Hv, Hg, Hy, H5, H6, Hargs⟩
  iapply ((K (F := F)).wp_run (D (F := F)) 𝒱 (EH := EH) (P := P (tableOK B) (grouped m)) κ d 0)
  isplitr; · iexact Hctx
  isplitl [HO Hst]
  · rw [show ((K (F := F)).tcSt EH d (0 : Fin 1).val : sProp 𝕄) = _ from tcSt_zero d]
    isplitl [HO]; · iexact HO
    iexact Hst
  isplitl [Hv Hg Hy]
  · iapply (st0_intro (tableOK B) (grouped m) d _ hW'.2.1)
    isplitl [Hv]; · iexact Hv
    isplitl [Hg]; · iexact Hg
    iexact Hy
  iintro ⟨Hst, Hdn⟩
  ihave H := (dn0_elim (tableOK B) (grouped m) d) $$ Hdn
  icases H with ⟨%y, %hy, Hy⟩
  iapply (tail_run m B d y _ _ hy)
  isplitl [Hb]; · iexact Hb
  isplitl [Hy H5 H6]
  · isplitl [Hy]; · iexact Hy
    isplitl [H5]; · iexact H5
    iexact H6
  iintro ⟨Hb, Hr⟩
  imodintro
  isplitl [Hst]; · iexact Hst
  isplitl [Hargs Hr]
  · unfold FIN
    icases Hargs with ⟨H0, H1, H2, H3⟩
    isplitl [H0]; · iexact H0
    isplitl [H1]; · iexact H1
    isplitl [H2]; · iexact H2
    isplitl [H3]; · iexact H3
    iexact Hr
  isplitl [Hb] <;> iassumption

/-- What every final state is to satisfy on a device. -/
def final (d : Dev nD) (s : MemSt nD τ sig (Elt F)) : Prop :=
  s.mem ((d : Thread nD τ).loc main_arg0) = m ((d : Thread nD τ).loc main_arg0) ∧ s.mem ((d : Thread nD τ).loc main_arg1) = m ((d : Thread nD τ).loc main_arg1)
    ∧ s.mem ((d : Thread nD τ).loc main_arg2) = m ((d : Thread nD τ).loc main_arg2) ∧ s.mem ((d : Thread nD τ).loc main_arg3) = m ((d : Thread nD τ).loc main_arg3)
    ∧ Answer m B d (s.mem ((d : Thread nD τ).loc main_v6))

set_option maxRecDepth 8192 in
/-- What @main keeps says what the memory holds. -/
theorem hfin (d : Dev nD) (s' : Phys nD τ sig (Elt F)) : iprop(FIN m B d ∗ SI s') ⊢ (⌜final m B d s'.mem⌝ : sProp 𝕄) := by
  unfold FIN
  iintro ⟨⟨H0, H1, H2, H3, ⟨%r, %hr, H6⟩⟩, HSI⟩
  icombine HSI H0 gives %h0
  icombine HSI H1 gives %h1
  icombine HSI H2 gives %h2
  icombine HSI H3 gives %h3
  icombine HSI H6 gives %h6
  ipureintro
  exact ⟨Buf.eq_of_forall_mem_univ h0, Buf.eq_of_forall_mem_univ h1, Buf.eq_of_forall_mem_univ h2, Buf.eq_of_forall_mem_univ h3,
    (Buf.eq_of_forall_mem_univ h6).symm ▸ hr⟩

/-- From any memory whose index array names rows of the table, with zero counters: every weakly fair execution of the
    program terminates without a fault, and every final state has the arguments as they were, the result an `Answer`, and
    every semaphore counter at zero. -/
theorem run_main [∀ e, Nonempty (Elt F e)] (hB : Fills (fun c b => atCall m c b) B)
    (hrange : ∀ (d : Dev nD) i, ((m ((d : Thread nD τ).loc main_arg0) : S16384x26.Idx → BitVec 32) i).toNat < 100000) :
    θ_run (Cert.KernelIdeal.defs (F := F)) (Cert.KernelIdeal.threads (F := F)) ⟨m, fun _ => 0, ρ⟩
      (fun r => (∀ d : Dev nD, final m B d r.2) ∧ r.2.sem = fun _ => 0) :=
  SparseCore.Cfg.θ_run_sc_quiescent (K := K (F := F)) (D := D (F := F)) (𝒱 := 𝒱) (EH := EH) (P := P (tableOK B) (grouped m)) (A := ∅) facts v₀
    (fun q hq => match q with | 0 => nomatch hq)
    (fun q _ => match q with | 0 => tileObl (tableOK B) (grouped m) facts fun d i => hrange d (src i))
    (fun q _ => match q with | 0 => SparseCore.Cfg.VecSplit.of_plain (vecSplit (tableOK B) (grouped m)))
    m ρ main ghost (FIN m B) (u₀ (F := F)) (sep_elim_left.trans (hu₀ (tableOK B) (grouped m))) (hmain m ρ B hB) (fun d s => final m B d s.mem) (hfin m B)
    (fun r => (∀ d : Dev nD, final m B d r.2) ∧ r.2.sem = fun _ => 0) (fun _ h hz => ⟨h, hz⟩)

end Cert.Proof.Sc
-- ==== Proof.Value.lean ====
/-
  The values of the kernel: the range the precondition gives the indices, and the table's entries over the extended reals.
-/
module

public import proofs.«01_k».proof.Defs
public import proofs.«01_k».proof.Proof.Main
public import Idealize.ShloMosaic.Lib.Pointwise
public import Idealize.ShloMosaic.Lib.ReduceAll
public import Idealize.ShloMosaic.Lib.WordCmp

@[expose] public section

noncomputable section

namespace Cert.Proof.Sc

open Cert.KernelIdeal Cert.KernelIdeal.Gen

open Idealize.ShloMosaic Idealize.ShloMosaic.TcCoe

/-- Where the precondition's function is 1, every index is below the number of rows of the embedding table. -/
theorem range_of_pre {F : FTy → Type} [FloatOps F] [Cert.Pre_in_range.Facts] (x : IVec S16384x26 32) (e : FVec F S100000x128 .f32)
    (w : FVec F S1x128 .f32) (b : FVec F S1 .f32) (h : Cert.Pre_in_range.fn (F := F) x e w b = fun _ => 1#1) (i : S16384x26.Idx) :
    (x i).toNat < 100000 := by
  have : Subsingleton Cert.Pre_in_range.S_.Idx := ⟨fun p q => funext fun a => a.elim0⟩
  have hi := Host.reduce_andi_all _ _ _ _ (fun a => a.elim0) (congrFun h fun a => a.elim0) i
  obtain ⟨h0, h1⟩ := IntOp.andi_eq_one.1 hi
  have h0' : IntOp.cmpi .sge (x i) 0#32 = 1#1 := h0
  have h1' : IntOp.cmpi .slt (x i) 100000#32 = 1#1 := h1
  rw [WordCmp.cmpi_sge_zero] at h0'
  have hs : (x i).toNat < 2 ^ 31 := (WordCmp.ofBool_decide_eq_one_iff _).1 h0'
  rw [WordCmp.cmpi_slt_of_lt hs (by decide)] at h1'
  exact (WordCmp.ofBool_decide_eq_one_iff _).1 h1'

/-- The score of row `r` of the embedding table: its product with the weights, plus the bias. -/
def score (e : FVec Ideal S100000x128 .f32) (w : FVec Ideal S1x128 .f32) (b : FVec Ideal S1 .f32) (r : Fin 100000) : Ideal .f32 :=
  (∑ k : Fin 128, e (ix2 r k) * w (ix2 0 k)) + b (ix1 0)

/-- What a step of the pipeline computes of a block of rows, at a row. -/
theorem pay_apply (e : Vec Ideal S12800x128 .f32) (w : Vec Ideal S1x128 .f32) (b : Vec Ideal S1x1 .f32) (r : S12800.Idx) :
    k0_pay1 e w b r = (∑ k : Fin 128, e (ix2 (r 0) k) * w (ix2 0 k)) + b (ix2 0 0) := by
  pointwise [k0_pay1]
  simp only [mul_comm]

/-- The steps of the pipeline fill the table with the rows' scores. -/
theorem fills_score (m : (ℓ : Loc nD τ sig) → Buf (Elt Ideal) ℓ) :
    Fills (fun c b => atCall m c b) fun c i x =>
      x = score (m ((c : Thread nD τ).loc main_arg1)) (m ((c : Thread nD τ).loc main_arg2)) (m ((c : Thread nD τ).loc main_arg3)) (i 0) := by
  intro c t e _ he r i hi
  rw [pay_apply]
  refine congrArg₂ (· + ·) (Finset.sum_congr rfl fun k _ => congrArg₂ (· * ·) ?_ ?_) ?_
  · rw [he (ix2 (r 0) k) (ix2 (i 0) k) hi rfl]
    exact congrFun (atCall_ne m c main_arg1 (by decide) (by decide)) _
  · exact congrFun (atCall_ne m c main_arg2 (by decide) (by decide)) _
  · exact atCall_bias m c _ _

end Cert.Proof.Sc

end
-- ==== Proof.Reference.lean ====
/-
  The reference's result, read at an index.
-/
module

public import proofs.«01_k».proof.Proof.Value
public import proofs.«01_k».proof.Proof.Gen.ReferenceIdeal.Run

@[expose] public section

noncomputable section

namespace Cert.Proof.Ref

open Cert.ReferenceIdeal Cert.ReferenceIdeal.Gen

open Idealize.ShloMosaic Idealize.ShloMosaic.TcCoe
open Cert.Proof.Sc (cell score)

/-- The row numbers the reference looks up: a negative index counts from the end. -/
def rowNos (x : IVec S16384x26 32) : IVec S16384x26x1 32 :=
  broadcastInDim S16384x26x1 ![0, 1] bcast_S16384x26_S16384x26x1_0_1 (select (cmpi .slt x (broadcastInDim S16384x26 ![] bcast_S_S16384x26 (constantI S_ 32 0#32))) (addi x (broadcastInDim S16384x26 ![] bcast_S_S16384x26 (constantI S_ 32 100000#32))) x)

/-- Which of the row numbers are rows of the embedding table. -/
def mask (x : IVec S16384x26 32) : IVec S16384x26 1 :=
  Host.reduce IntOp.andi (andi (cmpi .sge (rowNos x) (broadcastInDim S16384x26x1 ![] bcast_S_S16384x26x1 (constantI S_ 32 0#32))) (cmpi .sle (rowNos x) (broadcastInDim S16384x26x1 ![0, 1, 2] bcast_S1x1x1_S16384x26x1_0_1_2 (broadcastInDim S1x1x1 ![2] bcast_S1_S1x1x1_2 (constantI S1 32 99999#32))))) (constantI S_ 1 1#1) reducesTo_S16384x26x1_S16384x26_d2 h_S_

/-- The rows the reference looks up, one for each index. -/
def looked (x : IVec S16384x26 32) (e : FVec Ideal S100000x128 .f32) : FVec Ideal S16384x26x128 .f32 :=
  select (broadcastInDim S16384x26x128 ![0, 1] bcast_S16384x26_S16384x26x128_0_1 (mask x)) (Host.gather gather_S100000x128_S16384x26x1_S16384x26x128_2_0_n_n_0_2_1128 e (rowNos x)) (broadcastInDim S16384x26x128 ![] bcast_S_S16384x26x128 (constant S_ .f32 0x7FC00000#32))

/-- The reference's result, of its four arguments. -/
def refOut (x : IVec S16384x26 32) (e : FVec Ideal S100000x128 .f32) (w : FVec Ideal S1x128 .f32) (b : FVec Ideal S1 .f32) :
    FVec Ideal S16384x26x1 .f32 :=
  addf (Host.dotGeneral dot_S16384x26x128_S128x1_S16384x26x1_2_0_01_1_n_n none (looked x e) (transpose S128x1 [1, 0] w transposes_S1x128_S128x1_1_0)) (broadcastInDim S16384x26x1 ![0, 1, 2] bcast_S1x1x1_S16384x26x1_0_1_2 (broadcastInDim S1x1x1 ![2] bcast_S1_S1x1x1_2 b))

/-- The entry of the index array an index of the result belongs to, by coordinates. -/
theorem cell_eq (i : S16384x26x1.Idx) : cell i = ix2 (n0 := 16384) (n1 := 26) (i 0) (i 1) := by
  funext a
  match a with
  | ⟨0, _⟩ => rfl
  | ⟨1, _⟩ => rfl

variable (x : IVec S16384x26 32) (hx : ∀ i, (x i).toNat < 100000)

include hx in
/-- An index in range is its own row number. -/
theorem rowNos_apply (i : S16384x26x1.Idx) : rowNos x i = x (cell i) := by
  have h := hx (cell i)
  rw [cell_eq] at h ⊢
  pointwise [rowNos]
  rw [WordCmp.cmpi_slt_of_lt (by omega) (by decide)]
  simp [Scalar.select]

include hx in
/-- Every row number the reference looks up is in range, so none is masked. -/
theorem mask_one (j : S16384x26.Idx) : mask x j = 1#1 := by
  refine Host.reduce_andi_one _ _ _ _ j rfl fun i => ?_
  have h := hx (cell i)
  show IntOp.andi (IntOp.cmpi .sge (rowNos x i) 0#32) (IntOp.cmpi .sle (rowNos x i) 99999#32) = 1#1
  rw [rowNos_apply x hx, WordCmp.cmpi_sge_zero, WordCmp.cmpi_sle_of_lt (by omega) (by decide)]
  rw [IntOp.andi_eq_one]
  exact ⟨(WordCmp.ofBool_decide_eq_one_iff _).2 (by omega), (WordCmp.ofBool_decide_eq_one_iff _).2 (show (x (cell i)).toNat ≤ 99999 by omega)⟩

include hx in
/-- The looked-up row, at a column. -/
theorem gather_apply (e : FVec Ideal S100000x128 .f32) (p : Fin 16384) (q : Fin 26) (k : Fin 128) :
    Host.gather gather_S100000x128_S16384x26x1_S16384x26x128_2_0_n_n_0_2_1128 e (rowNos x) (ix3 p q k)
      = e (ix2 ⟨(x (ix2 p q)).toNat, hx _⟩ k) := by
  unfold Host.gather
  have hr : rowNos x (ix3 p q 0) = x (ix2 p q) := (rowNos_apply x hx _).trans (congrArg x (cell_eq (ix3 p q 0)))
  have h := hx (ix2 p q)
  refine congrArg e (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ fun h => ((GatherDims.mem_sKept _ _).mp h).1 (List.mem_singleton.mpr rfl), Nat.add_zero]
    unfold GatherDims.start
    rw [dif_pos (show (⟨0, by decide⟩ : Fin 2) ∈ gather_S100000x128_S16384x26x1_S16384x26x128_2_0_n_n_0_2_1128.startIndexMap from List.mem_singleton.mpr rfl)]
    have hs : GatherDims.siIdx gather_S100000x128_S16384x26x1_S16384x26x128_2_0_n_n_0_2_1128 (ix3 p q k)
        ⟨List.idxOf (0 : Fin 2) [0], List.idxOf_lt_length_iff.2 (List.mem_singleton.mpr rfl)⟩ = ix3 p q 0 := by
      funext b
      match b with
      | ⟨0, _⟩ => rfl
      | ⟨1, _⟩ => rfl
      | ⟨2, _⟩ => rfl
    refine (congrArg (fun j => min (rowNos x j).toInt.toNat 99999) hs).trans ?_
    show min (rowNos x (ix3 p q 0)).toInt.toNat 99999 = (x (ix2 p q)).toNat
    rw [hr, WordCmp.toInt_eq_toNat_of_lt_half (by omega)]
    omega
  | ⟨1, _⟩ =>
    unfold GatherDims.start
    rw [dif_neg (show (⟨1, by decide⟩ : Fin 2) ∉ gather_S100000x128_S16384x26x1_S16384x26x128_2_0_n_n_0_2_1128.startIndexMap from fun h => absurd (List.mem_singleton.mp h) (by decide)), Nat.zero_add]
    rfl

include hx in
/-- No looked-up row is replaced by the value that stands for a missing one. -/
theorem looked_apply (e : FVec Ideal S100000x128 .f32) (p : Fin 16384) (q : Fin 26) (k : Fin 128) :
    looked x e (ix3 p q k) = e (ix2 ⟨(x (ix2 p q)).toNat, hx _⟩ k) := by
  pointwise [looked]
  rw [mask_one x hx, gather_apply x hx]
  simp [Scalar.select]

include hx in
/-- The reference's result at an index: the score of the row the index there names. -/
theorem refOut_apply (e : FVec Ideal S100000x128 .f32) (w : FVec Ideal S1x128 .f32) (b : FVec Ideal S1 .f32) (i : S16384x26x1.Idx) :
    refOut x e w b i = score e w b ⟨(x (cell i)).toNat, hx _⟩ := by
  pointwise [refOut, score]
  have hr : (⟨(x (ix2 (n0 := 16384) (n1 := 26) (i 0) (i 1))).toNat, hx _⟩ : Fin 100000) = ⟨(x (cell i)).toNat, hx _⟩ :=
    Fin.ext (congrArg (fun j => (x j).toNat) (cell_eq i).symm)
  refine congrArg (fun s : Ideal .f32 => s + b (ix1 0)) (Finset.sum_congr rfl fun k _ => congrArg (fun s : Ideal .f32 => s * w (ix2 0 k)) ?_)
  exact (looked_apply x hx e (i 0) (i 1) k).trans (congrArg (fun r => e (ix2 r k)) hr)

end Cert.Proof.Ref

end
-- ==== Proof.Text.lean ====
/-
  The kernel's text is the idealized kernel's: one table of bodies, so one run.
-/
module

public import proofs.«01_k».proof.Defs
public import proofs.«01_k».proof.Proof.Gen.Kernel
public import proofs.«01_k».proof.Proof.Gen.KernelIdeal

@[expose] public section

noncomputable section

namespace Cert.Proof

open Idealize.ShloMosaic

/-- The bodies the two texts launch are the same. -/
theorem bodies_eq : Cert.Kernel.defs₀ (F := Bits) = Cert.KernelIdeal.defs₀ (F := Bits) := by
  funext p l a
  match p, l, a with
  | .tc, 0, (t, s) => rfl
  | .tc, 1, _ => rfl
  | .scVector c s, 0, _ => rfl
  | .scVector c s, 1, _ => rfl
  | .scScalar c, 0, _ => rfl
  | .scScalar c, 1, _ => rfl

/-- The two texts have one table of bodies. -/
theorem defs_eq : Cert.Kernel.defs (F := Bits) = Cert.KernelIdeal.defs (F := Bits) :=
  congrArg (fun d => Cert.KernelIdeal.sc.defs (Pipeline.defs Cert.KernelIdeal.pcfgs d)) bodies_eq

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Reference
public import proofs.«01_k».proof.Proof.Text
public import Idealize.ShloMosaic.Adequacy
public import Idealize.ShloMosaic.Init

@[expose] public section

noncomputable section

namespace Cert.Proof

open Idealize.ShloMosaic Idealize.ShloMosaic.TcCoe Idealize.SL.Sem

/-- The kernel runs from every memory whose indices are in range: it keeps its arguments and ends with every semaphore at
    zero. Its text is the idealized kernel's, whose run is proved for any float values. -/
theorem frame_kernel : Cert.quiescent_Kernel := by
  intro m ρ hpre
  have h := Sc.run_main (F := Bits) m ρ (fun _ _ _ => True) (fun _ _ _ _ _ _ _ _ => trivial)
    fun d => Sc.range_of_pre _ _ _ _ (hpre d)
  rw [defs_eq]
  refine (θ_run Cert.KernelIdeal.defs Cert.KernelIdeal.threads _).mono (fun _ h => ?_) h
  exact ⟨fun c => ⟨(h.1 c).1, (h.1 c).2.1, (h.1 c).2.2.1, (h.1 c).2.2.2.1⟩, h.2⟩

/-- The idealized kernel runs from every memory whose indices are in range: it keeps its arguments and ends with every
    semaphore at zero. -/
theorem frame_kernelIdeal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1⟩, h.2⟩)
    (Sc.run_main (F := Ideal) m ρ (fun _ _ _ => True) (fun _ _ _ _ _ _ _ _ => trivial)
      fun d => Sc.range_of_pre _ _ _ _ (hpre d))

/-- The reference runs from every memory: it keeps its arguments, and it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories with the same arguments and indices in range, both programs end with the same result: for every index,
    the score of the row it names. -/
theorem algebraic : Cert.algebraic_KernelIdeal_ReferenceIdeal := by
  intro m ρ m' ρ' hpre hagree
  have hrange := fun d => Sc.range_of_pre _ _ _ _ (hpre d)
  refine ⟨fun c => Ref.refOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono
      (fun _ h c => ⟨funext fun i => ?_, (h.1 c).1, (h.1 c).2.1, (h.1 c).2.2.1, (h.1 c).2.2.2.1⟩)
      (Sc.run_main (F := Ideal) m ρ _ (Sc.fills_score m) hrange)
    obtain ⟨v, hv, hi⟩ := (h.1 c).2.2.2.2 i
    refine hi.trans ((hv _).trans ?_)
    refine Eq.trans ?_ (Ref.refOut_apply _ (hrange c) _ _ _ i).symm
    exact congrArg (Sc.score _ _ _) (Fin.ext (Nat.mod_eq_of_lt (hrange c _)))
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := hagree c
    have he : Ref.refOut _ _ _ _ = Ref.refOut _ _ _ _ := congr (congr (congr (congrArg Ref.refOut h0) h1) h2) h3
    exact he

/-- The claim of the certificate. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, fun m ρ _ => frame_reference m ρ trivial, trivial, algebraic⟩

end Cert.Proof

end
